-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graphs [hPre_graphs : Cert.Pre_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graphs [hPre_graphs : Cert.Pre_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_graphs [hKernelIdeal : Cert.KernelIdeal.Facts] [hPre_graphs : Cert.Pre_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graphs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_graphs [hReferenceIdeal : Cert.ReferenceIdeal.Facts] [hPre_graphs : Cert.Pre_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "neg_span" .f32 0xBF7D70A4#32 ((-531502203 / 536870912 : ℝ) : EReal)

def algebraic_KernelIdeal_ReferenceIdeal_pre_graphs [hKernelIdeal : Cert.KernelIdeal.Facts] [hReferenceIdeal : Cert.ReferenceIdeal.Facts] [hPre_graphs : Cert.Pre_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graphs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_graphs : Cert.Pre_graphs.Facts),
    quiescent_Kernel (hKernel := hKernel)
    ∧ quiescent_KernelIdeal (hKernelIdeal := hKernelIdeal)
    ∧ quiescent_KernelIdeal_pre_graphs (hKernelIdeal := hKernelIdeal) (hPre_graphs := hPre_graphs)
    ∧ quiescent_ReferenceIdeal (hReferenceIdeal := hReferenceIdeal)
    ∧ quiescent_ReferenceIdeal_pre_graphs (hReferenceIdeal := hReferenceIdeal) (hPre_graphs := hPre_graphs)
    ∧ preserves_Kernel_KernelIdeal
    ∧ algebraic_KernelIdeal_ReferenceIdeal_pre_graphs (hKernelIdeal := hKernelIdeal) (hReferenceIdeal := hReferenceIdeal) (hPre_graphs := hPre_graphs)
-- ==== Pre_graphs.lean ====
abbrev S2048x256 : Shape := ⟨2, ![2048, 256]⟩
abbrev S3x2048x2048 : Shape := ⟨3, ![3, 2048, 2048]⟩
abbrev S_ : Shape := ⟨0, ![]⟩
abbrev S256x64 : Shape := ⟨2, ![256, 64]⟩
abbrev S128x1 : Shape := ⟨2, ![128, 1]⟩
abbrev S64x128 : Shape := ⟨2, ![64, 128]⟩
abbrev S128 : Shape := ⟨1, ![128]⟩
abbrev S128x128 : Shape := ⟨2, ![128, 128]⟩
abbrev S3x2048 : Shape := ⟨2, ![3, 2048]⟩

class Facts : Prop where
  bcast_S_S3x2048x2048 : S_.BroadcastsInDim S3x2048x2048 (![] : Fin 0 → Fin S3x2048x2048.rank)
  reducesTo_S3x2048x2048_S3x2048_d2 : S3x2048x2048.ReducesTo [2] S3x2048
  h_S_ : 0 < S_.numel
  bcast_S_S3x2048 : S_.BroadcastsInDim S3x2048 (![] : Fin 0 → Fin S3x2048.rank)
  bcast_S_S2048x256 : S_.BroadcastsInDim S2048x256 (![] : Fin 0 → Fin S2048x256.rank)
  bcast_S_S256x64 : S_.BroadcastsInDim S256x64 (![] : Fin 0 → Fin S256x64.rank)
  bcast_S_S128x1 : S_.BroadcastsInDim S128x1 (![] : Fin 0 → Fin S128x1.rank)

variable [Facts]

def fn_part1 {F : FTy → Type} [FloatOps F] (main_arg5 : FVec F S256x64 .f32) (main_arg6 : FVec F S128x1 .f32) (main_arg7 : FVec F S128x1 .f32) (main_arg8 : FVec F S128x1 .f32) (main_v4 : IVec S3x2048x2048 1) (main_v7 : IVec S3x2048 1) (main_v8 : IVec S_ 1) (main_v11 : IVec S2048x256 1) (main_v14 : IVec S256x64 1) (main_v15 : FVec F S256x64 .f32) (main_cst_5 : FVec F S_ .f32) : IVec S3x2048x2048 1 × IVec S3x2048 1 × IVec S_ 1 × IVec S2048x256 1 × IVec S256x64 1 × IVec S256x64 1 × IVec S256x64 1 × IVec S128x1 1 × IVec S128x1 1 × IVec S128x1 1 :=
  let main_v16 : FVec F S256x64 .f32 := broadcastInDim S256x64 ![] bcast_S_S256x64 main_cst_5
  let main_v17 : IVec S256x64 1 := cmpf .olt main_v15 main_v16
  let main_v18 : FVec F S256x64 .f32 := Host.absf main_arg5
  let main_cst_6 : FVec F S_ .f32 := constant S_ .f32 0x7F800000#32
  let main_v19 : FVec F S256x64 .f32 := broadcastInDim S256x64 ![] bcast_S_S256x64 main_cst_6
  let main_v20 : IVec S256x64 1 := cmpf .olt main_v18 main_v19
  let main_v21 : FVec F S128x1 .f32 := Host.absf main_arg6
  let main_cst_7 : FVec F S_ .f32 := constant S_ .f32 0x7F800000#32
  let main_v22 : FVec F S128x1 .f32 := broadcastInDim S128x1 ![] bcast_S_S128x1 main_cst_7
  let main_v23 : IVec S128x1 1 := cmpf .olt main_v21 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_v27 : FVec F S128x1 .f32 := Host.absf main_arg8
  let main_cst_9 : FVec F S_ .f32 := constant S_ .f32 0x7F800000#32
  let main_v28 : FVec F S128x1 .f32 := broadcastInDim S128x1 ![] bcast_S_S128x1 main_cst_9
  let main_v29 : IVec S128x1 1 := cmpf .olt main_v27 main_v28
  (main_v4, main_v7, main_v8, main_v11, main_v14, main_v17, main_v20, main_v23, main_v26, main_v29)

def fn {F : FTy → Type} [FloatOps F] (main_arg0 : FVec F S2048x256 .f32) (main_arg1 : FVec F S3x2048x2048 .f32) (main_arg2 : IVec S_ 32) (main_arg3 : FVec F S256x64 .f32) (main_arg4 : FVec F S256x64 .f32) (main_arg5 : FVec F S256x64 .f32) (main_arg6 : FVec F S128x1 .f32) (main_arg7 : FVec F S128x1 .f32) (main_arg8 : FVec F S128x1 .f32) (main_arg9 : FVec F S64x128 .f32) (main_arg10 : FVec F S128 .f32) (main_arg11 : FVec F S128x128 .f32) (main_arg12 : FVec F S128 .f32) : IVec S3x2048x2048 1 × IVec S3x2048 1 × IVec S_ 1 × IVec S2048x256 1 × IVec S256x64 1 × IVec S256x64 1 × IVec S256x64 1 × IVec S128x1 1 × IVec S128x1 1 × IVec S128x1 1 :=
  let main_cst : FVec F S_ .f32 := constant S_ .f32 0x00000000#32
  let main_v0 : FVec F S3x2048x2048 .f32 := broadcastInDim S3x2048x2048 ![] bcast_S_S3x2048x2048 main_cst
  let main_v1 : IVec S3x2048x2048 1 := cmpf .oeq main_arg1 main_v0
  let main_cst_0 : FVec F S_ .f32 := constant S_ .f32 0x3F800000#32
  let main_v2 : FVec F S3x2048x2048 .f32 := broadcastInDim S3x2048x2048 ![] bcast_S_S3x2048x2048 main_cst_0
  let main_v3 : IVec S3x2048x2048 1 := cmpf .oeq main_arg1 main_v2
  let main_v4 : IVec S3x2048x2048 1 := ori main_v1 main_v3
  let main_cst_1 : FVec F S_ .f32 := constant S_ .f32 0x00000000#32
  let main_v5 : FVec F S3x2048 .f32 := (fun x v => Host.reduceAdd x v reducesTo_S3x2048x2048_S3x2048_d2 h_S_) main_arg1 main_cst_1
  let main_cst_2 : FVec F S_ .f32 := constant S_ .f32 0x00000000#32
  let main_v6 : FVec F S3x2048 .f32 := broadcastInDim S3x2048 ![] bcast_S_S3x2048 main_cst_2
  let main_v7 : IVec S3x2048 1 := cmpf .ogt main_v5 main_v6
  let main_c : IVec S_ 32 := constantI S_ 32 0#32
  let main_v8 : IVec S_ 1 := cmpi .eq main_arg2 main_c
  let main_v9 : FVec F S2048x256 .f32 := Host.absf main_arg0
  let main_cst_3 : FVec F S_ .f32 := constant S_ .f32 0x7F800000#32
  let main_v10 : FVec F S2048x256 .f32 := broadcastInDim S2048x256 ![] bcast_S_S2048x256 main_cst_3
  let main_v11 : IVec S2048x256 1 := cmpf .olt main_v9 main_v10
  let main_v12 : FVec F S256x64 .f32 := Host.absf main_arg3
  let main_cst_4 : FVec F S_ .f32 := constant S_ .f32 0x7F800000#32
  let main_v13 : FVec F S256x64 .f32 := broadcastInDim S256x64 ![] bcast_S_S256x64 main_cst_4
  let main_v14 : IVec S256x64 1 := cmpf .olt main_v12 main_v13
  let main_v15 : FVec F S256x64 .f32 := Host.absf main_arg4
  let main_cst_5 : FVec F S_ .f32 := constant S_ .f32 0x7F800000#32
  fn_part1 (F := F) main_arg5 main_arg6 main_arg7 main_arg8 main_v4 main_v7 main_v8 main_v11 main_v14 main_v15 main_cst_5
-- ==== Kernel.lean ====
abbrev S2048x256 : Shape := ⟨2, ![2048, 256]⟩
abbrev S3x2048x2048 : Shape := ⟨3, ![3, 2048, 2048]⟩
abbrev S_ : Shape := ⟨0, ![]⟩
abbrev S256x64 : Shape := ⟨2, ![256, 64]⟩
abbrev S128x1 : Shape := ⟨2, ![128, 1]⟩
abbrev S64x128 : Shape := ⟨2, ![64, 128]⟩
abbrev S128 : Shape := ⟨1, ![128]⟩
abbrev S128x128 : Shape := ⟨2, ![128, 128]⟩
abbrev S1x256x64 : Shape := ⟨3, ![1, 256, 64]⟩
abbrev S3x256x64 : Shape := ⟨3, ![3, 256, 64]⟩
abbrev S64x1 : Shape := ⟨2, ![64, 1]⟩
abbrev S1x64x1 : Shape := ⟨3, ![1, 64, 1]⟩
abbrev S3x64x1 : Shape := ⟨3, ![3, 64, 1]⟩
abbrev S1x64 : Shape := ⟨2, ![1, 64]⟩
abbrev S1x1x64 : Shape := ⟨3, ![1, 1, 64]⟩
abbrev S3x1x64 : Shape := ⟨3, ![3, 1, 64]⟩
abbrev S1x128 : Shape := ⟨2, ![1, 128]⟩
abbrev S2048x128 : Shape := ⟨2, ![2048, 128]⟩
abbrev S1x512x2048 : Shape := ⟨3, ![1, 512, 2048]⟩
abbrev S512x128 : Shape := ⟨2, ![512, 128]⟩
abbrev S2048x2048 : Shape := ⟨2, ![2048, 2048]⟩
abbrev S2048x1 : Shape := ⟨2, ![2048, 1]⟩
abbrev S2048x64 : Shape := ⟨2, ![2048, 64]⟩
abbrev S3x2048x128 : Shape := ⟨3, ![3, 2048, 128]⟩
abbrev S3x2048x1 : Shape := ⟨3, ![3, 2048, 1]⟩
abbrev S3x1x2048 : Shape := ⟨3, ![3, 1, 2048]⟩
abbrev S1x2048 : Shape := ⟨2, ![1, 2048]⟩
abbrev S1x1x2048 : Shape := ⟨3, ![1, 1, 2048]⟩
abbrev S1 : Shape := ⟨1, ![1]⟩
abbrev S1x1x1 : Shape := ⟨3, ![1, 1, 1]⟩
abbrev S1x2048x1 : Shape := ⟨3, ![1, 2048, 1]⟩
abbrev S2048x63 : Shape := ⟨2, ![2048, 63]⟩
abbrev S1x2048x128 : Shape := ⟨3, ![1, 2048, 128]⟩
abbrev S512x2048 : Shape := ⟨2, ![512, 2048]⟩
abbrev S1x512x1 : Shape := ⟨3, ![1, 512, 1]⟩
abbrev S512x1 : Shape := ⟨2, ![512, 1]⟩
abbrev S512x64 : Shape := ⟨2, ![512, 64]⟩
abbrev S512 : Shape := ⟨1, ![512]⟩

abbrev nBuf : Space → Nat
  | .hbm => 41
  | .vmem => 21
  | .smem => 0
  | _ => 0

abbrev bufTy : (tb : Table) → Fin (tcTables nBuf tb) → BufTy
  | .hbm, ⟨0, _⟩ => ⟨S2048x256, .f32⟩
  | .hbm, ⟨1, _⟩ => ⟨S3x2048x2048, .f32⟩
  | .hbm, ⟨2, _⟩ => ⟨S_, .i32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S64x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x256x64, .f32⟩
  | .hbm, ⟨14, _⟩ => ⟨S1x256x64, .f32⟩
  | .hbm, ⟨15, _⟩ => ⟨S1x256x64, .f32⟩
  | .hbm, ⟨16, _⟩ => ⟨S3x256x64, .f32⟩
  | .hbm, ⟨17, _⟩ => ⟨S3x256x64, .bf16⟩
  | .hbm, ⟨18, _⟩ => ⟨S2048x256, .bf16⟩
  | .hbm, ⟨19, _⟩ => ⟨S64x1, .f32⟩
  | .hbm, ⟨20, _⟩ => ⟨S64x1, .f32⟩
  | .hbm, ⟨21, _⟩ => ⟨S64x1, .f32⟩
  | .hbm, ⟨22, _⟩ => ⟨S1x64x1, .f32⟩
  | .hbm, ⟨23, _⟩ => ⟨S1x64x1, .f32⟩
  | .hbm, ⟨24, _⟩ => ⟨S1x64x1, .f32⟩
  | .hbm, ⟨25, _⟩ => ⟨S3x64x1, .f32⟩
  | .hbm, ⟨26, _⟩ => ⟨S64x1, .f32⟩
  | .hbm, ⟨27, _⟩ => ⟨S1x64, .f32⟩
  | .hbm, ⟨28, _⟩ => ⟨S64x1, .f32⟩
  | .hbm, ⟨29, _⟩ => ⟨S1x64, .f32⟩
  | .hbm, ⟨30, _⟩ => ⟨S64x1, .f32⟩
  | .hbm, ⟨31, _⟩ => ⟨S1x64, .f32⟩
  | .hbm, ⟨32, _⟩ => ⟨S1x1x64, .f32⟩
  | .hbm, ⟨33, _⟩ => ⟨S1x1x64, .f32⟩
  | .hbm, ⟨34, _⟩ => ⟨S1x1x64, .f32⟩
  | .hbm, ⟨35, _⟩ => ⟨S3x1x64, .f32⟩
  | .hbm, ⟨36, _⟩ => ⟨S64x128, .bf16⟩
  | .hbm, ⟨37, _⟩ => ⟨S1x128, .f32⟩
  | .hbm, ⟨38, _⟩ => ⟨S128x128, .bf16⟩
  | .hbm, ⟨39, _⟩ => ⟨S1x128, .f32⟩
  | .hbm, ⟨40, _⟩ => ⟨S2048x128, .f32⟩
  | .local _ .vmem, ⟨0, _⟩ => ⟨S1x512x2048, .f32⟩
  | .local _ .vmem, ⟨1, _⟩ => ⟨S1x512x2048, .f32⟩
  | .local _ .vmem, ⟨2, _⟩ => ⟨S2048x256, .bf16⟩
  | .local _ .vmem, ⟨3, _⟩ => ⟨S3x256x64, .bf16⟩
  | .local _ .vmem, ⟨4, _⟩ => ⟨S3x64x1, .f32⟩
  | .local _ .vmem, ⟨5, _⟩ => ⟨S3x1x64, .f32⟩
  | .local _ .vmem, ⟨6, _⟩ => ⟨S64x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S2048x2048, .bf16⟩
  | .local _ .vmem, ⟨13, _⟩ => ⟨S2048x1, .f32⟩
  | .local _ .vmem, ⟨14, _⟩ => ⟨S2048x64, .f32⟩
  | .local _ .vmem, ⟨15, _⟩ => ⟨S2048x128, .f32⟩
  | .local _ .vmem, ⟨16, _⟩ => ⟨S2048x128, .bf16⟩
  | .local _ .vmem, ⟨17, _⟩ => ⟨S3x2048x128, .bf16⟩
  | .local _ .vmem, ⟨18, _⟩ => ⟨S3x2048x1, .f32⟩
  | .local _ .vmem, ⟨19, _⟩ => ⟨S3x1x2048, .f32⟩
  | .local _ .vmem, ⟨20, _⟩ => ⟨S3x1x2048, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![5, 4], ![false, false]⟩

def k0_cond2 (i : grid0.Coords) : BitVec 1 :=
  let arg0 : BitVec 32 := BitVec.ofNat 32 (i 0).val
  let c3_i32 : BitVec 32 := 3#32
  let v6 : BitVec 1 := Scalar.cmpi .slt arg0 c3_i32
  let v7 : BitVec 32 := Scalar.extui v6
  let c0_i32_2 : BitVec 32 := 0#32
  let v8 : BitVec 1 := Scalar.cmpi .ne v7 c0_i32_2
  v8

def k0_off1 (i : grid0.Coords) : Fin 3 → Nat :=
  let arg0 : BitVec 32 := BitVec.ofNat 32 (i 0).val
  let v27 : Index := Scalar.indexCast arg0
  let arg1 : BitVec 32 := BitVec.ofNat 32 (i 1).val
  let c512_i32 : BitVec 32 := 512#32
  let v0 : BitVec 32 := Scalar.muli arg1 c512_i32
  let v28 : Index := Scalar.indexCast v0
  let c0_14 : Index := 0#32
  ![v27.toNat, v28.toNat, 0]
def k0_off2 (i : grid0.Coords) : Fin 3 → Nat :=
  let arg0 : BitVec 32 := BitVec.ofNat 32 (i 0).val
  let v31 : Index := Scalar.indexCast arg0
  let c0_15 : Index := 0#32
  let c0_16 : Index := 0#32
  ![v31.toNat, 0, 0]
def k0_off3 (i : grid0.Coords) : Fin 3 → Nat :=
  let arg0 : BitVec 32 := BitVec.ofNat 32 (i 0).val
  let v44 : Index := Scalar.indexCast arg0
  let c0_19 : Index := 0#32
  let c0_20 : Index := 0#32
  ![v44.toNat, 0, 0]
def k0_cond3 (i : grid0.Coords) : BitVec 1 :=
  let arg0 : BitVec 32 := BitVec.ofNat 32 (i 0).val
  let c0_i32_21 : BitVec 32 := 0#32
  let v52 : BitVec 1 := Scalar.cmpi .eq arg0 c0_i32_21
  let v53 : BitVec 32 := Scalar.extui v52
  let c0_i32_22 : BitVec 32 := 0#32
  let v54 : BitVec 1 := Scalar.cmpi .ne v53 c0_i32_22
  v54

def k0_off4 (i : grid0.Coords) : Fin 2 → Nat :=
  let arg1 : BitVec 32 := BitVec.ofNat 32 (i 1).val
  let c512_i32 : BitVec 32 := 512#32
  let v0 : BitVec 32 := Scalar.muli arg1 c512_i32
  let v61 : Index := Scalar.indexCast v0
  let c0_25 : Index := 0#32
  ![v61.toNat, 0]
def k0_off5 (i : grid0.Coords) : Fin 2 → Nat :=
  let arg1 : BitVec 32 := BitVec.ofNat 32 (i 1).val
  let c512_i32 : BitVec 32 := 512#32
  let v0 : BitVec 32 := Scalar.muli arg1 c512_i32
  let v66 : Index := Scalar.indexCast v0
  let c0_26 : Index := 0#32
  ![v66.toNat, 0]
def k0_off6 (i : grid0.Coords) : Fin 2 → Nat :=
  let arg1 : BitVec 32 := BitVec.ofNat 32 (i 1).val
  let c512_i32 : BitVec 32 := 512#32
  let v0 : BitVec 32 := Scalar.muli arg1 c512_i32
  let v72 : Index := Scalar.indexCast v0
  let c0_28 : Index := 0#32
  ![v72.toNat, 0]
def k0_cond4 (i : grid0.Coords) : BitVec 1 :=
  let arg0 : BitVec 32 := BitVec.ofNat 32 (i 0).val
  let c1_i32 : BitVec 32 := 1#32
  let v55 : BitVec 1 := Scalar.cmpi .eq arg0 c1_i32
  let v56 : BitVec 32 := Scalar.extui v55
  let c0_i32_23 : BitVec 32 := 0#32
  let v57 : BitVec 1 := Scalar.cmpi .ne v56 c0_i32_23
  v57

def k0_off7 (i : grid0.Coords) : Fin 2 → Nat :=
  let arg1 : BitVec 32 := BitVec.ofNat 32 (i 1).val
  let c512_i32 : BitVec 32 := 512#32
  let v0 : BitVec 32 := Scalar.muli arg1 c512_i32
  let v61 : Index := Scalar.indexCast v0
  let c0_25 : Index := 0#32
  ![v61.toNat, 0]
def k0_cond5 (i : grid0.Coords) : BitVec 1 :=
  let arg0 : BitVec 32 := BitVec.ofNat 32 (i 0).val
  let c2_i32 : BitVec 32 := 2#32
  let v58 : BitVec 1 := Scalar.cmpi .eq arg0 c2_i32
  let v59 : BitVec 32 := Scalar.extui v58
  let c0_i32_24 : BitVec 32 := 0#32
  let v60 : BitVec 1 := Scalar.cmpi .ne v59 c0_i32_24
  v60

def k0_off8 (i : grid0.Coords) : Fin 2 → Nat :=
  let arg1 : BitVec 32 := BitVec.ofNat 32 (i 1).val
  let c512_i32 : BitVec 32 := 512#32
  let v0 : BitVec 32 := Scalar.muli arg1 c512_i32
  let v61 : Index := Scalar.indexCast v0
  let c0_25 : Index := 0#32
  ![v61.toNat, 0]
def k0_cond7 (i : grid0.Coords) : BitVec 1 :=
  let arg0 : BitVec 32 := BitVec.ofNat 32 (i 0).val
  let c3_i32_6 : BitVec 32 := 3#32
  let v14 : BitVec 1 := Scalar.cmpi .eq arg0 c3_i32_6
  let v15 : BitVec 32 := Scalar.extui v14
  let c0_i32_7 : BitVec 32 := 0#32
  let v16 : BitVec 1 := Scalar.cmpi .ne v15 c0_i32_7
  v16

def k0_off9 (i : grid0.Coords) : Fin 2 → Nat :=
  let arg1 : BitVec 32 := BitVec.ofNat 32 (i 1).val
  let c512_i32 : BitVec 32 := 512#32
  let v0 : BitVec 32 := Scalar.muli arg1 c512_i32
  let v25 : Index := Scalar.indexCast v0
  let c0 : Index := 0#32
  ![v25.toNat, 0]
def k0_off10 (i : grid0.Coords) : Fin 2 → Nat :=
  let arg1 : BitVec 32 := BitVec.ofNat 32 (i 1).val
  let c512_i32 : BitVec 32 := 512#32
  let v0 : BitVec 32 := Scalar.muli arg1 c512_i32
  let v29 : Index := Scalar.indexCast v0
  let c0_14 : Index := 0#32
  ![v29.toNat, 0]
def k0_off11 (i : grid0.Coords) : Fin 2 → Nat :=
  let arg1 : BitVec 32 := BitVec.ofNat 32 (i 1).val
  let c512_i32 : BitVec 32 := 512#32
  let v0 : BitVec 32 := Scalar.muli arg1 c512_i32
  let v46 : Index := Scalar.indexCast v0
  let c0_21 : Index := 0#32
  ![v46.toNat, 0]
def k0_cond9 (i : grid0.Coords) : BitVec 1 :=
  let arg0 : BitVec 32 := BitVec.ofNat 32 (i 0).val
  let c4_i32_10 : BitVec 32 := 4#32
  let v22 : BitVec 1 := Scalar.cmpi .eq arg0 c4_i32_10
  let v23 : BitVec 32 := Scalar.extui v22
  let c0_i32_11 : BitVec 32 := 0#32
  let v24 : BitVec 1 := Scalar.cmpi .ne v23 c0_i32_11
  v24

def k0_off12 (i : grid0.Coords) : Fin 2 → Nat :=
  let arg1 : BitVec 32 := BitVec.ofNat 32 (i 1).val
  let c512_i32 : BitVec 32 := 512#32
  let v0 : BitVec 32 := Scalar.muli arg1 c512_i32
  let v25 : Index := Scalar.indexCast v0
  let c0 : Index := 0#32
  ![v25.toNat, 0]
def k0_off13 (i : grid0.Coords) : Fin 2 → Nat :=
  let arg1 : BitVec 32 := BitVec.ofNat 32 (i 1).val
  let c512_i32 : BitVec 32 := 512#32
  let v0 : BitVec 32 := Scalar.muli arg1 c512_i32
  let v29 : Index := Scalar.indexCast v0
  let c0_14 : Index := 0#32
  ![v29.toNat, 0]
def k0_off14 (i : grid0.Coords) : Fin 2 → Nat :=
  let arg1 : BitVec 32 := BitVec.ofNat 32 (i 1).val
  let c512_i32 : BitVec 32 := 512#32
  let v0 : BitVec 32 := Scalar.muli arg1 c512_i32
  let v37 : Index := Scalar.indexCast v0
  let c0_18 : Index := 0#32
  ![v37.toNat, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.minsi arg0 c2_i32
  let c3_i32 : BitVec 32 := 3#32
  let v1 : BitVec 1 := Scalar.cmpi .slt arg0 c3_i32
  let c3_i32_0 : BitVec 32 := 3#32
  let v2 : BitVec 32 := Scalar.select v1 arg1 c3_i32_0
  let c0_i32 : BitVec 32 := 0#32
  let c0_i32_1 : BitVec 32 := 0#32
  ![v0.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "neg_span" => some ((-531502203 / 536870912 : ℝ) : EReal)
  | _ => none
-- ==== ReferenceIdeal.lean ====
abbrev S2048x256 : Shape := ⟨2, ![2048, 256]⟩
abbrev S3x2048x2048 : Shape := ⟨3, ![3, 2048, 2048]⟩
abbrev S_ : Shape := ⟨0, ![]⟩
abbrev S256x64 : Shape := ⟨2, ![256, 64]⟩
abbrev S128x1 : Shape := ⟨2, ![128, 1]⟩
abbrev S64x128 : Shape := ⟨2, ![64, 128]⟩
abbrev S128 : Shape := ⟨1, ![128]⟩
abbrev S128x128 : Shape := ⟨2, ![128, 128]⟩
abbrev S1x2048x2048 : Shape := ⟨3, ![1, 2048, 2048]⟩
abbrev S2048x2048 : Shape := ⟨2, ![2048, 2048]⟩
abbrev S2048x64 : Shape := ⟨2, ![2048, 64]⟩
abbrev S64x1 : Shape := ⟨2, ![64, 1]⟩
abbrev S2048x1 : Shape := ⟨2, ![2048, 1]⟩
abbrev S1x2048 : Shape := ⟨2, ![1, 2048]⟩
abbrev S2048 : Shape := ⟨1, ![2048]⟩
abbrev S2048x128 : Shape := ⟨2, ![2048, 128]⟩
abbrev S1x128 : Shape := ⟨2, ![1, 128]⟩

abbrev nBuf : Space → Nat
  | .hbm => 224
  | .vmem => 0
  | .smem => 0
  | _ => 0

abbrev hbmTy0_0 (i : Nat) : BufTy := match i % 128 with
  | 0 => ⟨S2048x256, .f32⟩
  | 1 => ⟨S3x2048x2048, .f32⟩
  | 2 => ⟨S_, .i32⟩
  | 3 => ⟨S256x64, .f32⟩
  | 4 => ⟨S256x64, .f32⟩
  | 5 => ⟨S256x64, .f32⟩
  | 6 => ⟨S128x1, .f32⟩
  | 7 => ⟨S128x1, .f32⟩
  | 8 => ⟨S128x1, .f32⟩
  | 9 => ⟨S64x128, .f32⟩
  | 10 => ⟨S128, .f32⟩
  | 11 => ⟨S128x128, .f32⟩
  | 12 => ⟨S128, .f32⟩
  | 13 => ⟨S1x2048x2048, .f32⟩
  | 14 => ⟨S2048x2048, .f32⟩
  | 15 => ⟨S2048x64, .f32⟩
  | 16 => ⟨S64x1, .f32⟩
  | 17 => ⟨S2048x1, .f32⟩
  | 18 => ⟨S64x1, .f32⟩
  | 19 => ⟨S2048x1, .f32⟩
  | 20 => ⟨S1x2048, .f32⟩
  | 21 => ⟨S2048x2048, .f32⟩
  | 22 => ⟨S2048x2048, .f32⟩
  | 23 => ⟨S2048x2048, .f32⟩
  | 24 => ⟨S_, .f32⟩
  | 25 => ⟨S2048x2048, .f32⟩
  | 26 => ⟨S2048x2048, .i1⟩
  | 27 => ⟨S_, .f32⟩
  | 28 => ⟨S2048x2048, .f32⟩
  | 29 => ⟨S2048x2048, .f32⟩
  | 30 => ⟨S2048x2048, .f32⟩
  | 31 => ⟨S_, .f32⟩
  | 32 => ⟨S2048x2048, .f32⟩
  | 33 => ⟨S2048x2048, .i1⟩
  | 34 => ⟨S_, .f32⟩
  | 35 => ⟨S_, .f32⟩
  | 36 => ⟨S2048x2048, .f32⟩
  | 37 => ⟨S2048x2048, .f32⟩
  | 38 => ⟨S_, .f32⟩
  | 39 => ⟨S2048, .f32⟩
  | 40 => ⟨S_, .f32⟩
  | 41 => ⟨S2048, .f32⟩
  | 42 => ⟨S2048, .f32⟩
  | 43 => ⟨S2048x1, .f32⟩
  | 44 => ⟨S2048x2048, .f32⟩
  | 45 => ⟨S2048x2048, .f32⟩
  | 46 => ⟨S2048x2048, .f32⟩
  | 47 => ⟨S_, .f32⟩
  | 48 => ⟨S2048, .f32⟩
  | 49 => ⟨S2048x1, .f32⟩
  | 50 => ⟨S2048x2048, .f32⟩
  | 51 => ⟨S2048x2048, .f32⟩
  | 52 => ⟨S2048x64, .f32⟩
  | 53 => ⟨S1x2048x2048, .f32⟩
  | 54 => ⟨S2048x2048, .f32⟩
  | 55 => ⟨S2048x64, .f32⟩
  | 56 => ⟨S64x1, .f32⟩
  | 57 => ⟨S2048x1, .f32⟩
  | 58 => ⟨S64x1, .f32⟩
  | 59 => ⟨S2048x1, .f32⟩
  | 60 => ⟨S1x2048, .f32⟩
  | 61 => ⟨S2048x2048, .f32⟩
  | 62 => ⟨S2048x2048, .f32⟩
  | 63 => ⟨S2048x2048, .f32⟩
  | 64 => ⟨S_, .f32⟩
  | 65 => ⟨S2048x2048, .f32⟩
  | 66 => ⟨S2048x2048, .i1⟩
  | 67 => ⟨S_, .f32⟩
  | 68 => ⟨S2048x2048, .f32⟩
  | 69 => ⟨S2048x2048, .f32⟩
  | 70 => ⟨S2048x2048, .f32⟩
  | 71 => ⟨S_, .f32⟩
  | 72 => ⟨S2048x2048, .f32⟩
  | 73 => ⟨S2048x2048, .i1⟩
  | 74 => ⟨S_, .f32⟩
  | 75 => ⟨S_, .f32⟩
  | 76 => ⟨S2048x2048, .f32⟩
  | 77 => ⟨S2048x2048, .f32⟩
  | 78 => ⟨S_, .f32⟩
  | 79 => ⟨S2048, .f32⟩
  | 80 => ⟨S_, .f32⟩
  | 81 => ⟨S2048, .f32⟩
  | 82 => ⟨S2048, .f32⟩
  | 83 => ⟨S2048x1, .f32⟩
  | 84 => ⟨S2048x2048, .f32⟩
  | 85 => ⟨S2048x2048, .f32⟩
  | 86 => ⟨S2048x2048, .f32⟩
  | 87 => ⟨S_, .f32⟩
  | 88 => ⟨S2048, .f32⟩
  | 89 => ⟨S2048x1, .f32⟩
  | 90 => ⟨S2048x2048, .f32⟩
  | 91 => ⟨S2048x2048, .f32⟩
  | 92 => ⟨S2048x64, .f32⟩
  | 93 => ⟨S1x2048x2048, .f32⟩
  | 94 => ⟨S2048x2048, .f32⟩
  | 95 => ⟨S2048x64, .f32⟩
  | 96 => ⟨S64x1, .f32⟩
  | 97 => ⟨S2048x1, .f32⟩
  | 98 => ⟨S64x1, .f32⟩
  | 99 => ⟨S2048x1, .f32⟩
  | 100 => ⟨S1x2048, .f32⟩
  | 101 => ⟨S2048x2048, .f32⟩
  | 102 => ⟨S2048x2048, .f32⟩
  | 103 => ⟨S2048x2048, .f32⟩
  | 104 => ⟨S_, .f32⟩
  | 105 => ⟨S2048x2048, .f32⟩
  | 106 => ⟨S2048x2048, .i1⟩
  | 107 => ⟨S_, .f32⟩
  | 108 => ⟨S2048x2048, .f32⟩
  | 109 => ⟨S2048x2048, .f32⟩
  | 110 => ⟨S2048x2048, .f32⟩
  | 111 => ⟨S_, .f32⟩
  | 112 => ⟨S2048x2048, .f32⟩
  | 113 => ⟨S2048x2048, .i1⟩
  | 114 => ⟨S_, .f32⟩
  | 115 => ⟨S_, .f32⟩
  | 116 => ⟨S2048x2048, .f32⟩
  | 117 => ⟨S2048x2048, .f32⟩
  | 118 => ⟨S_, .f32⟩
  | 119 => ⟨S2048, .f32⟩
  | 120 => ⟨S_, .f32⟩
  | 121 => ⟨S2048, .f32⟩
  | 122 => ⟨S2048, .f32⟩
  | 123 => ⟨S2048x1, .f32⟩
  | 124 => ⟨S2048x2048, .f32⟩
  | 125 => ⟨S2048x2048, .f32⟩
  | 126 => ⟨S2048x2048, .f32⟩
  | 127 => ⟨S_, .f32⟩
  | _ => ⟨S2048x256, .f32⟩

abbrev hbmTy0_1 (i : Nat) : BufTy := match i % 128 with
  | 0 => ⟨S2048, .f32⟩
  | 1 => ⟨S2048x1, .f32⟩
  | 2 => ⟨S2048x2048, .f32⟩
  | 3 => ⟨S2048x2048, .f32⟩
  | 4 => ⟨S2048x64, .f32⟩
  | 5 => ⟨S2048x64, .f32⟩
  | 6 => ⟨S2048x64, .f32⟩
  | 7 => ⟨S_, .f32⟩
  | 8 => ⟨S2048x64, .f32⟩
  | 9 => ⟨S2048x64, .f32⟩
  | 10 => ⟨S2048x64, .f32⟩
  | 11 => ⟨S2048x64, .f32⟩
  | 12 => ⟨S_, .f32⟩
  | 13 => ⟨S2048x64, .f32⟩
  | 14 => ⟨S2048x64, .f32⟩
  | 15 => ⟨S_, .f32⟩
  | 16 => ⟨S2048x64, .f32⟩
  | 17 => ⟨S2048x64, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S1x2048x2048, .f32⟩
  | 40 => ⟨S2048x2048, .f32⟩
  | 41 => ⟨S2048x128, .f32⟩
  | 42 => ⟨S_, .f32⟩
  | 43 => ⟨S2048, .f32⟩
  | 44 => ⟨S_, .f32⟩
  | 45 => ⟨S2048, .f32⟩
  | 46 => ⟨S2048, .i1⟩
  | 47 => ⟨S_, .f32⟩
  | 48 => ⟨S2048, .f32⟩
  | 49 => ⟨S2048, .f32⟩
  | 50 => ⟨S_, .f32⟩
  | 51 => ⟨S_, .f32⟩
  | 52 => ⟨S2048, .f32⟩
  | 53 => ⟨S2048, .f32⟩
  | 54 => ⟨S2048x1, .f32⟩
  | 55 => ⟨S2048x2048, .f32⟩
  | 56 => ⟨S2048x2048, .f32⟩
  | 57 => ⟨S2048x128, .f32⟩
  | 58 => ⟨S1x128, .f32⟩
  | 59 => ⟨S2048x128, .f32⟩
  | 60 => ⟨S2048x128, .f32⟩
  | 61 => ⟨S_, .f32⟩
  | 62 => ⟨S2048x128, .f32⟩
  | 63 => ⟨S2048x128, .i1⟩
  | 64 => ⟨S_, .f32⟩
  | 65 => ⟨S2048x128, .f32⟩
  | 66 => ⟨S2048x128, .f32⟩
  | 67 => ⟨S2048x128, .f32⟩
  | 68 => ⟨S2048x128, .f32⟩
  | 69 => ⟨S_, .f32⟩
  | 70 => ⟨S2048, .f32⟩
  | 71 => ⟨S_, .f32⟩
  | 72 => ⟨S2048, .f32⟩
  | 73 => ⟨S2048, .i1⟩
  | 74 => ⟨S_, .f32⟩
  | 75 => ⟨S2048, .f32⟩
  | 76 => ⟨S2048, .f32⟩
  | 77 => ⟨S_, .f32⟩
  | 78 => ⟨S_, .f32⟩
  | 79 => ⟨S2048, .f32⟩
  | 80 => ⟨S2048, .f32⟩
  | 81 => ⟨S2048x1, .f32⟩
  | 82 => ⟨S2048x2048, .f32⟩
  | 83 => ⟨S2048x2048, .f32⟩
  | 84 => ⟨S2048x128, .f32⟩
  | 85 => ⟨S1x128, .f32⟩
  | 86 => ⟨S2048x128, .f32⟩
  | 87 => ⟨S2048x128, .f32⟩
  | 88 => ⟨S_, .f32⟩
  | 89 => ⟨S2048x128, .f32⟩
  | 90 => ⟨S2048x128, .i1⟩
  | 91 => ⟨S_, .f32⟩
  | 92 => ⟨S2048x128, .f32⟩
  | 93 => ⟨S2048x128, .f32⟩
  | 94 => ⟨S2048x128, .f32⟩
  | 95 => ⟨S2048x128, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_call3_v0 : Ref sig .tc := ⟨.hbm, 75, rfl⟩
abbrev main_call3_v1 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_call5_v0 : Ref sig .tc := ⟨.hbm, 115, rfl⟩
abbrev main_call5_v1 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_20 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_v100 : Ref sig .tc := ⟨.hbm, 142, rfl⟩
abbrev main_cst_22 : Ref sig .tc := ⟨.hbm, 143, rfl⟩
abbrev main_v101 : Ref sig .tc := ⟨.hbm, 144, rfl⟩
abbrev main_v102 : Ref sig .tc := ⟨.hbm, 145, rfl⟩
abbrev main_c : Ref sig .tc := ⟨.hbm, 146, rfl⟩
abbrev main_v103 : Ref sig .tc := ⟨.hbm, 147, rfl⟩
abbrev main_c_23 : Ref sig .tc := ⟨.hbm, 148, rfl⟩
abbrev main_v104 : Ref sig .tc := ⟨.hbm, 149, rfl⟩
abbrev main_v105 : Ref sig .tc := ⟨.hbm, 150, rfl⟩
abbrev main_c_24 : Ref sig .tc := ⟨.hbm, 151, rfl⟩
abbrev main_c_25 : Ref sig .tc := ⟨.hbm, 152, rfl⟩
abbrev main_v106 : Ref sig .tc := ⟨.hbm, 153, rfl⟩
abbrev main_c_26 : Ref sig .tc := ⟨.hbm, 154, rfl⟩
abbrev main_c_27 : Ref sig .tc := ⟨.hbm, 155, rfl⟩
abbrev main_v107 : Ref sig .tc := ⟨.hbm, 156, rfl⟩
abbrev main_c_28 : Ref sig .tc := ⟨.hbm, 157, rfl⟩
abbrev main_v108 : Ref sig .tc := ⟨.hbm, 158, rfl⟩
abbrev main_c_29 : Ref sig .tc := ⟨.hbm, 159, rfl⟩
abbrev main_c_30 : Ref sig .tc := ⟨.hbm, 160, rfl⟩
abbrev main_v109 : Ref sig .tc := ⟨.hbm, 161, rfl⟩
abbrev main_c_31 : Ref sig .tc := ⟨.hbm, 162, rfl⟩
abbrev main_c_32 : Ref sig .tc := ⟨.hbm, 163, rfl⟩
abbrev main_v110 : Ref sig .tc := ⟨.hbm, 164, rfl⟩
abbrev main_c_33 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_34 : Ref sig .tc := ⟨.hbm, 170, rfl⟩
abbrev main_v115 : Ref sig .tc := ⟨.hbm, 171, rfl⟩
abbrev main_cst_35 : Ref sig .tc := ⟨.hbm, 172, rfl⟩
abbrev main_v116 : Ref sig .tc := ⟨.hbm, 173, rfl⟩
abbrev main_v117 : Ref sig .tc := ⟨.hbm, 174, rfl⟩
abbrev main_cst_36 : Ref sig .tc := ⟨.hbm, 175, rfl⟩
abbrev main_v118 : Ref sig .tc := ⟨.hbm, 176, rfl⟩
abbrev main_v119 : Ref sig .tc := ⟨.hbm, 177, rfl⟩
abbrev main_cst_37 : Ref sig .tc := ⟨.hbm, 178, rfl⟩
abbrev main_call6_v0 : Ref sig .tc := ⟨.hbm, 179, rfl⟩
abbrev main_call6_v1 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_cst_38 : Ref sig .tc := ⟨.hbm, 189, rfl⟩
abbrev main_v128 : Ref sig .tc := ⟨.hbm, 190, rfl⟩
abbrev main_v129 : Ref sig .tc := ⟨.hbm, 191, rfl⟩
abbrev main_cst_39 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_40 : Ref sig .tc := ⟨.hbm, 197, rfl⟩
abbrev main_v134 : Ref sig .tc := ⟨.hbm, 198, rfl⟩
abbrev main_cst_41 : Ref sig .tc := ⟨.hbm, 199, rfl⟩
abbrev main_v135 : Ref sig .tc := ⟨.hbm, 200, rfl⟩
abbrev main_v136 : Ref sig .tc := ⟨.hbm, 201, rfl⟩
abbrev main_cst_42 : Ref sig .tc := ⟨.hbm, 202, rfl⟩
abbrev main_v137 : Ref sig .tc := ⟨.hbm, 203, rfl⟩
abbrev main_v138 : Ref sig .tc := ⟨.hbm, 204, rfl⟩
abbrev main_cst_43 : Ref sig .tc := ⟨.hbm, 205, rfl⟩
abbrev main_call8_v0 : Ref sig .tc := ⟨.hbm, 206, rfl⟩
abbrev main_call8_v1 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_44 : Ref sig .tc := ⟨.hbm, 216, rfl⟩
abbrev main_v147 : Ref sig .tc := ⟨.hbm, 217, rfl⟩
abbrev main_v148 : Ref sig .tc := ⟨.hbm, 218, rfl⟩
abbrev main_cst_45 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩

abbrev nD : Nat := 1
abbrev τ : Topo := Topo.v7x

variable {F : FTy → Type} [FloatOps F]
-- ==== Proof.KernelIdeal.Steps.lean ====
/-
  What one grid point of the kernel does to the buffers it carries from point to point, as functions of their contents.

  The grid is five phases by four blocks of 512 rows. `prep` is the first point's preparation, `attn0`, `attn1`, `attn2` are what a block of
  rows of the three attention phases leaves, `sup1` and `sup2` the two projections at the head of the mean layers, `mean1` a block of rows of
  the first mean layer, and `outBlk` the block of rows that the second mean layer writes out.
-/
module

public import proofs.«01_k».proof.Proof.Gen.KernelIdeal.Skeleton
public import proofs.«01_k».proof.Proof.Gen.KernelIdeal.Frame
public import Idealize.ShloMosaic.Lib.VecWindow

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- The contents of the nine buffers that the kernel carries from point to point. -/
structure St (F : FTy → Type) where
  mask : Vec F S2048x2048 .bf16
  deg : Vec F S2048x1 .f32
  hp : Vec F S2048x64 .f32
  o1 : Vec F S2048x128 .f32
  sup : Vec F S2048x128 .bf16
  whp : Vec F S3x2048x128 .bf16
  q : Vec F S3x2048x1 .f32
  g1 : Vec F S3x1x2048 .f32
  g2 : Vec F S3x1x2048 .f32

/-- The contents of the eight operands that stay the same at every point. -/
structure Ops (F : FTy → Type) where
  x : Vec F S2048x256 .bf16
  w : Vec F S3x256x64 .bf16
  alo : Vec F S3x64x1 .f32
  ahi : Vec F S3x1x64 .f32
  gw1 : Vec F S64x128 .bf16
  gb1 : Vec F S1x128 .f32
  gw2 : Vec F S128x128 .bf16
  gb2 : Vec F S1x128 .f32

/-- Relation 0's, 1's and 2's slices of the three stacked attention operands. -/
def wk (X : Ops F) : Fin 3 → Vec F S1x256x64 .bf16
  | 0 => VecWindow.window X.w ![0, 0, 0] S1x256x64.size inb_S3x256x64_S1x256x64_0_0_0
  | 1 => VecWindow.window X.w ![1, 0, 0] S1x256x64.size inb_S3x256x64_S1x256x64_1_0_0
  | 2 => VecWindow.window X.w ![2, 0, 0] S1x256x64.size inb_S3x256x64_S1x256x64_2_0_0
/-- A relation's row half of the stacked attention vectors. -/
def lok (X : Ops F) : Fin 3 → Vec F S1x64x1 .f32
  | 0 => VecWindow.window X.alo ![0, 0, 0] S1x64x1.size inb_S3x64x1_S1x64x1_0_0_0
  | 1 => VecWindow.window X.alo ![1, 0, 0] S1x64x1.size inb_S3x64x1_S1x64x1_1_0_0
  | 2 => VecWindow.window X.alo ![2, 0, 0] S1x64x1.size inb_S3x64x1_S1x64x1_2_0_0
/-- A relation's column half of the stacked attention vectors. -/
def hik (X : Ops F) : Fin 3 → Vec F S1x1x64 .f32
  | 0 => VecWindow.window X.ahi ![0, 0, 0] S1x1x64.size inb_S3x1x64_S1x1x64_0_0_0
  | 1 => VecWindow.window X.ahi ![1, 0, 0] S1x1x64.size inb_S3x1x64_S1x1x64_1_0_0
  | 2 => VecWindow.window X.ahi ![2, 0, 0] S1x1x64.size inb_S3x1x64_S1x1x64_2_0_0

/-- What the first point's preparation stores for each relation: the projected features with the column of ones, and the three tables of
    exponentials. -/
def whpVal (X : Ops F) : Fin 3 → Vec F S1x2048x128 .bf16
  | 0 => k0_pay19 (k0_pay12 X.x (wk X 0))
  | 1 => k0_pay27 (k0_pay20 X.x (wk X 1))
  | 2 => k0_pay35 (k0_pay28 X.x (wk X 2))
/-- What the first point puts into a relation's row table. -/
def qVal (X : Ops F) : Fin 3 → Vec F S1x2048x1 .f32
  | 0 => k0_pay15 X.x (wk X 0) (lok X 0) (hik X 0)
  | 1 => k0_pay24 (k0_pay23 X.x (wk X 1) (lok X 1) (hik X 1))
  | 2 => k0_pay32 (k0_pay28 X.x (wk X 2)) (k0_pay29 X.x (wk X 2) (lok X 2)) (hik X 2)
/-- What the first point puts into a relation's first column table. -/
def g1Val (X : Ops F) : Fin 3 → Vec F S1x1x2048 .f32
  | 0 => k0_pay16 X.x (wk X 0) (hik X 0)
  | 1 => k0_pay25 (k0_pay21 X.x (wk X 1) (hik X 1)) (k0_pay22 X.x (wk X 1) (hik X 1))
  | 2 => k0_pay33 (k0_pay28 X.x (wk X 2)) (hik X 2)
/-- What the first point puts into a relation's second column table. -/
def g2Val (X : Ops F) : Fin 3 → Vec F S1x1x2048 .f32
  | 0 => k0_pay18 (k0_pay17 X.x (wk X 0) (hik X 0))
  | 1 => k0_pay26 (k0_pay21 X.x (wk X 1) (hik X 1)) (k0_pay22 X.x (wk X 1) (hik X 1))
  | 2 => k0_pay34 (k0_pay28 X.x (wk X 2)) (hik X 2)

/-- Three slices stacked into one table. -/
abbrev stack {S : Shape} {e : EltTy} (o0 o1 o2 size : Fin S.rank → ℕ) (w0 w1 w2 : ((a : Fin S.rank) → Fin (size a)) → Elt F e) : Vec F S e :=
  VecWindow.put (VecWindow.put (VecWindow.put (fun _ => Classical.arbitrary _) o0 size w0) o1 size w1) o2 size w2

/-- The preparation: the four stacked tables, relation by relation. -/
def prep (X : Ops F) (s : St F) : St F :=
  { s with
    whp := stack (S := S3x2048x128) ![0, 0, 0] ![1, 0, 0] ![2, 0, 0] S1x2048x128.size (whpVal X 0) (whpVal X 1) (whpVal X 2)
    q := stack (S := S3x2048x1) ![0, 0, 0] ![1, 0, 0] ![2, 0, 0] S1x2048x1.size (qVal X 0) (qVal X 1) (qVal X 2)
    g1 := stack (S := S3x1x2048) ![0, 0, 0] ![1, 0, 0] ![2, 0, 0] S1x1x2048.size (g1Val X 0) (g1Val X 1) (g1Val X 2)
    g2 := stack (S := S3x1x2048) ![0, 0, 0] ![1, 0, 0] ![2, 0, 0] S1x1x2048.size (g2Val X 0) (g2Val X 1) (g2Val X 2) }

/-- A block of rows of a relation's row table lies inside the buffer. -/
theorem inb_q (k : Fin 3) (r : Fin 4) : ∀ a, (![k.val, 512 * r.val, 0] : Fin 3 → ℕ) a + S1x512x1.size a ≤ S3x2048x1.size a := by
  revert k r; decide
/-- A relation's column table lies inside the buffer. -/
theorem inb_g (k : Fin 3) : ∀ a, (![k.val, 0, 0] : Fin 3 → ℕ) a + S1x1x2048.size a ≤ S3x1x2048.size a := by
  revert k; decide
/-- A relation's projected features lie inside the buffer. -/
theorem inb_whp (k : Fin 3) : ∀ a, (![k.val, 0, 0] : Fin 3 → ℕ) a + S1x2048x128.size a ≤ S3x2048x128.size a := by
  revert k; decide
/-- A block of rows of the hidden features lies inside the buffer. -/
theorem inb_hp (r : Fin 4) : ∀ a, (![512 * r.val, 0] : Fin 2 → ℕ) a + S512x64.size a ≤ S2048x64.size a := by
  revert r; decide
/-- A block of rows of the mask lies inside the buffer. -/
theorem inb_mask (r : Fin 4) : ∀ a, (![512 * r.val, 0] : Fin 2 → ℕ) a + S512x2048.size a ≤ S2048x2048.size a := by
  revert r; decide
/-- A block of rows of the degrees lies inside the buffer. -/
theorem inb_deg (r : Fin 4) : ∀ a, (![512 * r.val, 0] : Fin 2 → ℕ) a + S512x1.size a ≤ S2048x1.size a := by
  revert r; decide
/-- A block of rows of the first mean layer lies inside the buffer. -/
theorem inb_o1 (r : Fin 4) : ∀ a, (![512 * r.val, 0] : Fin 2 → ℕ) a + S512x128.size a ≤ S2048x128.size a := by
  revert r; decide

/-- Relation `k`'s tables as a block of rows reads them: rows `512r … 512r+511` of the row table, the two column tables, the features. -/
def qAt (s : St F) (k : Fin 3) (r : Fin 4) : Vec F S1x512x1 .f32 := VecWindow.window s.q ![k.val, 512 * r.val, 0] S1x512x1.size (inb_q k r)
/-- A relation's first column table in a state. -/
def g1At (s : St F) (k : Fin 3) : Vec F S1x1x2048 .f32 := VecWindow.window s.g1 ![k.val, 0, 0] S1x1x2048.size (inb_g k)
/-- A relation's second column table in a state. -/
def g2At (s : St F) (k : Fin 3) : Vec F S1x1x2048 .f32 := VecWindow.window s.g2 ![k.val, 0, 0] S1x1x2048.size (inb_g k)
/-- A relation's projected features in a state. -/
def whpAt (s : St F) (k : Fin 3) : Vec F S1x2048x128 .bf16 := VecWindow.window s.whp ![k.val, 0, 0] S1x2048x128.size (inb_whp k)
/-- Rows `512r … 512r+511` of the running sum over relations, of the mask, of the degrees and of the first mean layer. -/
def hpAt (s : St F) (r : Fin 4) : Vec F S512x64 .f32 := VecWindow.window s.hp ![512 * r.val, 0] S512x64.size (inb_hp r)
/-- A block of rows of the mask in a state. -/
def maskAt (s : St F) (r : Fin 4) : Vec F S512x2048 .bf16 := VecWindow.window s.mask ![512 * r.val, 0] S512x2048.size (inb_mask r)
/-- A block of rows of the degrees in a state. -/
def degAt (s : St F) (r : Fin 4) : Vec F S512x1 .f32 := VecWindow.window s.deg ![512 * r.val, 0] S512x1.size (inb_deg r)
/-- A block of rows of the first mean layer in a state. -/
def o1At (s : St F) (r : Fin 4) : Vec F S512x128 .f32 := VecWindow.window s.o1 ![512 * r.val, 0] S512x128.size (inb_o1 r)

/-- A block of rows of the first attention phase: the block's mean, the mask and the degrees. -/
def attn0 (A : Vec F S1x512x2048 .f32) (r : Fin 4) (s : St F) : St F :=
  { s with
    hp := VecWindow.put s.hp ![512 * r.val, 0] S512x64.size (k0_pay3 A (qAt s 0 r) (g2At s 0) (g1At s 0) (whpAt s 0))
    mask := VecWindow.put s.mask ![512 * r.val, 0] S512x2048.size (k0_pay4 A)
    deg := VecWindow.put s.deg ![512 * r.val, 0] S512x1.size (k0_pay5 A) }

/-- A block of rows of the second attention phase: added to the running sum. -/
def attn1 (A : Vec F S1x512x2048 .f32) (r : Fin 4) (s : St F) : St F :=
  { s with hp := VecWindow.put s.hp ![512 * r.val, 0] S512x64.size (k0_pay6 A (qAt s 1 r) (g2At s 1) (g1At s 1) (whpAt s 1) (hpAt s r)) }

/-- A block of rows of the third attention phase: the running sum is completed and passed through the sigmoid. -/
def attn2 (A : Vec F S1x512x2048 .f32) (r : Fin 4) (s : St F) : St F :=
  { s with hp := VecWindow.put s.hp ![512 * r.val, 0] S512x64.size (k0_pay7 A (qAt s 2 r) (g2At s 2) (g1At s 2) (whpAt s 2) (hpAt s r)) }

/-- The projection at the head of the first mean layer. -/
def sup1 (X : Ops F) (s : St F) : St F := { s with sup := k0_pay8 s.hp X.gw1 }

/-- A block of rows of the first mean layer. -/
def mean1 (X : Ops F) (r : Fin 4) (s : St F) : St F :=
  { s with o1 := VecWindow.put s.o1 ![512 * r.val, 0] S512x128.size (k0_pay9 (maskAt s r) s.sup (degAt s r) X.gb1) }

/-- The projection at the head of the second mean layer. -/
def sup2 (X : Ops F) (s : St F) : St F := { s with sup := k0_pay10 s.o1 X.gw2 }

/-- The block of rows that the second mean layer writes out. -/
def outBlk (X : Ops F) (r : Fin 4) (s : St F) : Vec F S512x128 .f32 :=
  k0_pay11 (maskAt s r) s.sup (degAt s r) (o1At s r) X.gb2

/-- What grid point `t` (phase `t / 4`, block of rows `t % 4`) leaves, of the adjacency block `A` it is handed. -/
def step (A : Vec F S1x512x2048 .f32) (X : Ops F) (t : ℕ) (s : St F) : St F :=
  let r : Fin 4 := ⟨t % 4, Nat.mod_lt _ (by decide)⟩
  if t = 0 then attn0 A r (prep X s)
  else if t < 4 then attn0 A r s
  else if t < 8 then attn1 A r s
  else if t < 12 then attn2 A r s
  else if t = 12 then mean1 X r (sup1 X s)
  else if t < 16 then mean1 X r s
  else if t = 16 then sup2 X s
  else s

/-- The buffers before point `n`, from contents `s₀` before the first point. -/
def traj (A : ℕ → Vec F S1x512x2048 .f32) (X : Ops F) (s₀ : St F) : ℕ → St F
  | 0 => s₀
  | n + 1 => step (A n) X n (traj A X s₀ n)

end Cert.KernelIdeal.Hand

end
-- ==== Proof.KernelIdeal.Body.lean ====
/-
  The kernel's body at one grid point, run: from the operands and the nine carried buffers at any contents, each case of the grid's phases ends
  with the carried buffers at what the case's step (`Steps`) says, and the last phase with the output block written.
-/
module

public import proofs.«01_k».proof.Proof.KernelIdeal.Steps
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- A buffer seen through a memref, held whole at the representative of shape-level contents. -/
abbrev held (c : Dev nD) {sp : Space} {S : Shape} {e : EltTy} (M : Memref sig .tc sp S e) (X : Vec F S e) : sProp 𝕄 :=
  M.view.loc (c : Thread nD τ) ↦[M.view.set]{fullShare} M.view.rep X

/-- The mask buffer, whole. -/
abbrev mMask : Memref sig .tc .vmem S2048x2048 .bf16 := Memref.whole cc0_scratch0
/-- The degree buffer, whole. -/
abbrev mDeg : Memref sig .tc .vmem S2048x1 .f32 := Memref.whole cc0_scratch1
/-- The hidden-feature buffer, whole. -/
abbrev mHp : Memref sig .tc .vmem S2048x64 .f32 := Memref.whole cc0_scratch2
/-- The buffer of the first mean layer, whole. -/
abbrev mO1 : Memref sig .tc .vmem S2048x128 .f32 := Memref.whole cc0_scratch3
/-- The buffer of a mean layer's projection, whole. -/
abbrev mSup : Memref sig .tc .vmem S2048x128 .bf16 := Memref.whole cc0_scratch4
/-- The buffer of the projected features, whole. -/
abbrev mWhp : Memref sig .tc .vmem S3x2048x128 .bf16 := Memref.whole cc0_scratch5
/-- The row-table buffer, whole. -/
abbrev mQ : Memref sig .tc .vmem S3x2048x1 .f32 := Memref.whole cc0_scratch6
/-- The first column-table buffer, whole. -/
abbrev mG1 : Memref sig .tc .vmem S3x1x2048 .f32 := Memref.whole cc0_scratch7
/-- The second column-table buffer, whole. -/
abbrev mG2 : Memref sig .tc .vmem S3x1x2048 .f32 := Memref.whole cc0_scratch8

/-- The nine carried buffers at the contents `s`. -/
abbrev carried (c : Dev nD) (s : St F) : sProp 𝕄 :=
  iprop(held c mMask s.mask ∗ held c mDeg s.deg ∗ held c mHp s.hp ∗ held c mO1 s.o1 ∗ held c mSup s.sup
    ∗ held c mWhp s.whp ∗ held c mQ s.q ∗ held c mG1 s.g1 ∗ held c mG2 s.g2)

/-- A buffer left written with pieces is held at the contents that the pieces read as. -/
theorem held_of_read (c : Dev nD) {sp : Space} {S : Shape} {e : EltTy} (M : Memref sig .tc sp S e) (g : Buf (Elt F) (M.view.loc (c : Thread nD τ)))
    (X : Vec F S e) (h : M.view.read (Elt F) g = X) :
    (M.view.loc (c : Thread nD τ) ↦[M.view.set]{fullShare} g : sProp 𝕄) ⊢ held c M X :=
  pointsTo_rep_of_read (c : Thread nD τ) M g fullShare X h

/-- A load through a unit rectangle, of the representative of `x`, reads that window of `x`. -/
theorem readAt_win {κ : Kind} {sp : Space} {S : Shape} {e : EltTy} (v : View sig κ sp S e) (x : Vec F S e) {off size : Fin S.rank → ℕ}
    (inb : ∀ a, off a + size a ≤ S.size a) :
    v.readAt (Elt F) (Rect.unit off size inb).toLoadRect (v.rep x) = VecWindow.window x off size inb :=
  View.readAt_rep_unit v x inb rfl inb

/-- A buffer left with one window stored is held at its old contents with that window put. -/
theorem held_put (c : Dev nD) {sp : Space} {S : Shape} {e : EltTy} (M : Memref sig .tc sp S e) (x : Vec F S e) {off off' size : Fin S.rank → ℕ}
    (inb : ∀ a, off a + size a ≤ S.size a) (w w' : (Rect.unit off size inb).shape.Idx → Elt F e) (h : off = off') (hw : w = w') :
    (M.view.loc (c : Thread nD τ) ↦[M.view.set]{fullShare} M.view.writes (Elt F) (M.view.rep x) [⟨Rect.unit off size inb, w⟩] : sProp 𝕄)
      ⊢ held c M (VecWindow.put x off' size w') :=
  held_of_read c M _ _ (by rw [hw]; exact View.read_writes_rep_unit M.view x inb w' h)

/-- A buffer left with a store of all of it is held at what was stored. -/
theorem held_full (c : Dev nD) {sp : Space} {S : Shape} {e : EltTy} (M : Memref sig .tc sp S e) (g : Buf (Elt F) (M.view.loc (c : Thread nD τ))) {off : Fin S.rank → ℕ}
    (inb : ∀ a, off a + S.size a ≤ S.size a) (w w' : Vec F S e) (L : List (View.Piece (Elt F) S e)) (hw : w = w') :
    (M.view.loc (c : Thread nD τ) ↦[M.view.set]{fullShare} M.view.writes (Elt F) g (⟨Rect.unit off S.size inb, w⟩ :: L) : sProp 𝕄)
      ⊢ held c M w' :=
  held_of_read c M _ _ (by rw [hw]; exact View.read_writes_full M.view g inb w' L)

/-- A buffer whose every slice was stored, read: the three slices stacked. -/
theorem read_stack {κ : Kind} {sp : Space} {S : Shape} {e : EltTy} (v : View sig κ sp S e) {o0 o1 o2 size : Fin S.rank → ℕ}
    (inb0 : ∀ a, o0 a + size a ≤ S.size a) (inb1 : ∀ a, o1 a + size a ≤ S.size a) (inb2 : ∀ a, o2 a + size a ≤ S.size a)
    (w0 : (Rect.unit o0 size inb0).shape.Idx → Elt F e) (w1 : (Rect.unit o1 size inb1).shape.Idx → Elt F e) (w2 : (Rect.unit o2 size inb2).shape.Idx → Elt F e) :
    v.read (Elt F) (v.writes (Elt F) v.junk [⟨Rect.unit o2 size inb2, w2⟩, ⟨Rect.unit o1 size inb1, w1⟩, ⟨Rect.unit o0 size inb0, w0⟩])
      = stack o0 o1 o2 size w0 w1 w2 := by
  rw [View.read_writes_cons_put v _ inb2 w2 _ rfl, View.read_writes_cons_put v _ inb1 w1 _ rfl, View.read_writes_cons_put v _ inb0 w0 _ rfl, View.writes_nil,
    show v.read (Elt F) v.junk = fun _ => Classical.arbitrary _ from funext (View.read_junk_apply v)]

section
variable (c : Dev nD) (i : grid0.Coords)
  (a2 : Memref sig .tc .vmem S1x512x2048 .f32) (h2 : a2.IsWhole) (a3 : Memref sig .tc .vmem S2048x256 .bf16) (h3 : a3.IsWhole)
  (a4 : Memref sig .tc .vmem S3x256x64 .bf16) (h4 : a4.IsWhole) (a5 : Memref sig .tc .vmem S3x64x1 .f32) (h5 : a5.IsWhole)
  (a6 : Memref sig .tc .vmem S3x1x64 .f32) (h6 : a6.IsWhole) (a7 : Memref sig .tc .vmem S64x128 .bf16) (h7 : a7.IsWhole)
  (a8 : Memref sig .tc .vmem S1x128 .f32) (h8 : a8.IsWhole) (a9 : Memref sig .tc .vmem S128x128 .bf16) (h9 : a9.IsWhole)
  (a10 : Memref sig .tc .vmem S1x128 .f32) (h10 : a10.IsWhole) (a11 : Memref sig .tc .vmem S512x128 .f32) (h11 : a11.IsWhole)

/-- The body on the ten staged operands and the nine carried buffers. -/
abbrev theBody : Prog (TpuEff nD τ sig (Elt F) Λ₀ .tc) PUnit :=
  cc0__main_body i a2 h2 a3 h3 a4 h4 a5 h5 a6 h6 a7 h7 a8 h8 a9 h9 a10 h10 a11 h11
    mMask (Memref.isWhole_whole _) mDeg (Memref.isWhole_whole _) mHp (Memref.isWhole_whole _) mO1 (Memref.isWhole_whole _)
    mSup (Memref.isWhole_whole _) mWhp (Memref.isWhole_whole _) mQ (Memref.isWhole_whole _) mG1 (Memref.isWhole_whole _) mG2 (Memref.isWhole_whole _)

/-- The nine staged inputs at the contents `A` and `X`. -/
abbrev staged (A : Vec F S1x512x2048 .f32) (X : Ops F) : sProp 𝕄 :=
  iprop(held c a2 A ∗ held c a3 X.x ∗ held c a4 X.w ∗ held c a5 X.alo ∗ held c a6 X.ahi ∗ held c a7 X.gw1 ∗ held c a8 X.gb1
    ∗ held c a9 X.gw2 ∗ held c a10 X.gb2)

/-- The body takes the inputs at `A`, `X`, the output block at `Y` and the carried buffers at `s` to the inputs unchanged, the output block at
    `Y'` and the carried buffers at `s'`. -/
def Runs (A : Vec F S1x512x2048 .f32) (X : Ops F) (Y : Vec F S512x128 .f32) (s : St F) (Y' : Vec F S512x128 .f32) (s' : St F) : Prop :=
  ∀ (K : PUnit → sProp 𝕄),
    iprop(staged c a2 a3 a4 a5 a6 a7 a8 a9 a10 A X ∗ held c a11 Y ∗ carried c s
      ∗ (iprop(staged c a2 a3 a4 a5 a6 a7 a8 a9 a10 A X ∗ held c a11 Y' ∗ carried c s') -∗ K ⟨⟩))
    ⊢ wp frame (wpE (defs₀ (F := F)) Variants.none c none) Set.univ
        (theBody i a2 h2 a3 h3 a4 h4 a5 h5 a6 h6 a7 h7 a8 h8 a9 h9 a10 h10 a11 h11) K

/-- The condition of the first point's preparation, and those of the two projections, as the body computes them. -/
abbrev at0 : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
/-- The condition of the first mean phase's first point. -/
abbrev at12 : BitVec 1 :=
  Scalar.cmpi .ne (Scalar.extui (Scalar.andi (Scalar.cmpi .eq (BitVec.ofNat 32 (i 0).val) 3#32) (Scalar.cmpi .eq (BitVec.ofNat 32 (i 1).val) 0#32)) : BitVec 32) 0#32
/-- The condition of the second mean phase's first point. -/
abbrev at16 : BitVec 1 :=
  Scalar.cmpi .ne (Scalar.extui (Scalar.andi (Scalar.cmpi .eq (BitVec.ofNat 32 (i 0).val) 4#32) (Scalar.cmpi .eq (BitVec.ofNat 32 (i 1).val) 0#32)) : BitVec 32) 0#32

variable (A : Vec F S1x512x2048 .f32) (X : Ops F) (Y : Vec F S512x128 .f32) (s : St F) (r : Fin 4)

set_option maxHeartbeats 4000000 in
/-- A block of rows of the first attention phase, after the first. -/
theorem run_attn0 (c1 : ¬ at0 i = 1#1) (c2 : k0_cond2 i = 1#1) (c3 : k0_cond3 i = 1#1) (c4 : ¬ k0_cond4 i = 1#1) (c5 : ¬ k0_cond5 i = 1#1) (c6 : ¬ at12 i = 1#1) (c7 : ¬ k0_cond7 i = 1#1) (c8 : ¬ at16 i = 1#1) (c9 : ¬ k0_cond9 i = 1#1)
    (o1 : k0_off1 i = ![0, 512 * r.val, 0]) (o2 : k0_off2 i = ![0, 0, 0]) (o3 : k0_off3 i = ![0, 0, 0]) (o4 : k0_off4 i = ![512 * r.val, 0]) (o5 : k0_off5 i = ![512 * r.val, 0]) (o6 : k0_off6 i = ![512 * r.val, 0]) :
    Runs c i a2 h2 a3 h3 a4 h4 a5 h5 a6 h6 a7 h7 a8 h8 a9 h9 a10 h10 a11 h11 A X Y s Y (attn0 A r s) := by
  intro K
  simp only [theBody, cc0__main_body_eq_skeleton]; unfold cc0__main_body_skel
  iintro ⟨⟨H2, H3, H4, H5, H6, H7, H8, H9, H10⟩, H11, ⟨S0, S1, S2, S3, S4, S5, S6, S7, S8⟩, Hk⟩
  sl_exec
  ihave S2 := (held_put c mHp s.hp (size := S512x64.size) _ _ (k0_pay3 A (qAt s 0 r) (g2At s 0) (g1At s 0) (whpAt s 0)) o4 (by rw [View.readAt_rep_full, View.readAt_rep_unit mQ.view _ _ o1 (inb_q 0 r), View.readAt_rep_unit mG2.view _ _ o2 (inb_g 0), View.readAt_rep_unit mG1.view _ _ o2 (inb_g 0), View.readAt_rep_unit mWhp.view _ _ o3 (inb_whp 0)]; rfl)) $$ S2
  ihave S0 := (held_put c mMask s.mask (size := S512x2048.size) _ _ (k0_pay4 A) o5 (by rw [View.readAt_rep_full])) $$ S0
  ihave S1 := (held_put c mDeg s.deg (size := S512x1.size) _ _ (k0_pay5 A) o6 (by rw [View.readAt_rep_full])) $$ S1
  sl_step
  iapply Hk
  dsimp only [staged, carried, attn0]
  iframe

set_option maxHeartbeats 4000000 in
/-- A block of rows of the second attention phase. -/
theorem run_attn1 (c1 : ¬ at0 i = 1#1) (c2 : k0_cond2 i = 1#1) (c3 : ¬ k0_cond3 i = 1#1) (c4 : k0_cond4 i = 1#1) (c5 : ¬ k0_cond5 i = 1#1) (c6 : ¬ at12 i = 1#1) (c7 : ¬ k0_cond7 i = 1#1) (c8 : ¬ at16 i = 1#1) (c9 : ¬ k0_cond9 i = 1#1)
    (o1 : k0_off1 i = ![1, 512 * r.val, 0]) (o2 : k0_off2 i = ![1, 0, 0]) (o3 : k0_off3 i = ![1, 0, 0]) (o7 : k0_off7 i = ![512 * r.val, 0]) :
    Runs c i a2 h2 a3 h3 a4 h4 a5 h5 a6 h6 a7 h7 a8 h8 a9 h9 a10 h10 a11 h11 A X Y s Y (attn1 A r s) := by
  intro K
  simp only [theBody, cc0__main_body_eq_skeleton]; unfold cc0__main_body_skel
  iintro ⟨⟨H2, H3, H4, H5, H6, H7, H8, H9, H10⟩, H11, ⟨S0, S1, S2, S3, S4, S5, S6, S7, S8⟩, Hk⟩
  sl_exec
  ihave S2 := (held_put c mHp s.hp (size := S512x64.size) _ _ (k0_pay6 A (qAt s 1 r) (g2At s 1) (g1At s 1) (whpAt s 1) (hpAt s r)) o7 (by rw [View.readAt_rep_full, View.readAt_rep_unit mQ.view _ _ o1 (inb_q 1 r), View.readAt_rep_unit mG2.view _ _ o2 (inb_g 1), View.readAt_rep_unit mG1.view _ _ o2 (inb_g 1), View.readAt_rep_unit mWhp.view _ _ o3 (inb_whp 1), View.readAt_rep_unit mHp.view _ _ o7 (inb_hp r)]; rfl)) $$ S2
  sl_step
  iapply Hk
  dsimp only [staged, carried, attn1]
  iframe

set_option maxHeartbeats 4000000 in
/-- A block of rows of the third attention phase. -/
theorem run_attn2 (c1 : ¬ at0 i = 1#1) (c2 : k0_cond2 i = 1#1) (c3 : ¬ k0_cond3 i = 1#1) (c4 : ¬ k0_cond4 i = 1#1) (c5 : k0_cond5 i = 1#1) (c6 : ¬ at12 i = 1#1) (c7 : ¬ k0_cond7 i = 1#1) (c8 : ¬ at16 i = 1#1) (c9 : ¬ k0_cond9 i = 1#1)
    (o1 : k0_off1 i = ![2, 512 * r.val, 0]) (o2 : k0_off2 i = ![2, 0, 0]) (o3 : k0_off3 i = ![2, 0, 0]) (o8 : k0_off8 i = ![512 * r.val, 0]) :
    Runs c i a2 h2 a3 h3 a4 h4 a5 h5 a6 h6 a7 h7 a8 h8 a9 h9 a10 h10 a11 h11 A X Y s Y (attn2 A r s) := by
  intro K
  simp only [theBody, cc0__main_body_eq_skeleton]; unfold cc0__main_body_skel
  iintro ⟨⟨H2, H3, H4, H5, H6, H7, H8, H9, H10⟩, H11, ⟨S0, S1, S2, S3, S4, S5, S6, S7, S8⟩, Hk⟩
  sl_exec
  ihave S2 := (held_put c mHp s.hp (size := S512x64.size) _ _ (k0_pay7 A (qAt s 2 r) (g2At s 2) (g1At s 2) (whpAt s 2) (hpAt s r)) o8 (by rw [View.readAt_rep_full, View.readAt_rep_unit mQ.view _ _ o1 (inb_q 2 r), View.readAt_rep_unit mG2.view _ _ o2 (inb_g 2), View.readAt_rep_unit mG1.view _ _ o2 (inb_g 2), View.readAt_rep_unit mWhp.view _ _ o3 (inb_whp 2), View.readAt_rep_unit mHp.view _ _ o8 (inb_hp r)]; rfl)) $$ S2
  sl_step
  iapply Hk
  dsimp only [staged, carried, attn2]
  iframe

set_option maxHeartbeats 4000000 in
/-- The first block of rows of the first mean layer, its projection first. -/
theorem run_sup1 (c1 : ¬ at0 i = 1#1) (c2 : ¬ k0_cond2 i = 1#1) (c3 : ¬ k0_cond3 i = 1#1) (c4 : ¬ k0_cond4 i = 1#1) (c5 : ¬ k0_cond5 i = 1#1) (c6 : at12 i = 1#1) (c7 : k0_cond7 i = 1#1) (c8 : ¬ at16 i = 1#1) (c9 : ¬ k0_cond9 i = 1#1)
    (o9 : k0_off9 i = ![512 * r.val, 0]) (o10 : k0_off10 i = ![512 * r.val, 0]) (o11 : k0_off11 i = ![512 * r.val, 0]) :
    Runs c i a2 h2 a3 h3 a4 h4 a5 h5 a6 h6 a7 h7 a8 h8 a9 h9 a10 h10 a11 h11 A X Y s Y (mean1 X r (sup1 X s)) := by
  intro K
  simp only [theBody, cc0__main_body_eq_skeleton]; unfold cc0__main_body_skel
  iintro ⟨⟨H2, H3, H4, H5, H6, H7, H8, H9, H10⟩, H11, ⟨S0, S1, S2, S3, S4, S5, S6, S7, S8⟩, Hk⟩
  sl_exec
  have E4 : mSup.view.read (Elt F) (mSup.view.writes (Elt F) (mSup.view.rep s.sup) (run_sup1.sl.S4_1 a7 X s)) = k0_pay8 s.hp X.gw1 := by
    unfold run_sup1.sl.S4_1
    rw [View.read_writes_full, View.readAt_rep_full, View.readAt_rep_full]
  have V27 : run_sup1.sl.v27 a7 X s = k0_pay8 s.hp X.gw1 := by
    unfold run_sup1.sl.v27
    unfold run_sup1.sl.S4_1; rw [View.readCov_full, View.readAt_rep_full, View.readAt_rep_full]
  ihave S4 := (held_of_read c mSup _ _ E4) $$ S4
  ihave S3 := (held_put c mO1 s.o1 (size := S512x128.size) _ _ (k0_pay9 (maskAt s r) (k0_pay8 s.hp X.gw1) (degAt s r) X.gb1) o11 (by rw [View.readAt_rep_unit mMask.view _ _ o9 (inb_mask r), View.readAt_rep_unit mDeg.view _ _ o10 (inb_deg r), V27, View.readAt_rep_full]; rfl)) $$ S3
  sl_step
  iapply Hk
  dsimp only [staged, carried, mean1, sup1, maskAt, degAt]
  iframe

set_option maxHeartbeats 4000000 in
/-- A later block of rows of the first mean layer. -/
theorem run_mean1 (c1 : ¬ at0 i = 1#1) (c2 : ¬ k0_cond2 i = 1#1) (c3 : ¬ k0_cond3 i = 1#1) (c4 : ¬ k0_cond4 i = 1#1) (c5 : ¬ k0_cond5 i = 1#1) (c6 : ¬ at12 i = 1#1) (c7 : k0_cond7 i = 1#1) (c8 : ¬ at16 i = 1#1) (c9 : ¬ k0_cond9 i = 1#1)
    (o9 : k0_off9 i = ![512 * r.val, 0]) (o10 : k0_off10 i = ![512 * r.val, 0]) (o11 : k0_off11 i = ![512 * r.val, 0]) :
    Runs c i a2 h2 a3 h3 a4 h4 a5 h5 a6 h6 a7 h7 a8 h8 a9 h9 a10 h10 a11 h11 A X Y s Y (mean1 X r s) := by
  intro K
  simp only [theBody, cc0__main_body_eq_skeleton]; unfold cc0__main_body_skel
  iintro ⟨⟨H2, H3, H4, H5, H6, H7, H8, H9, H10⟩, H11, ⟨S0, S1, S2, S3, S4, S5, S6, S7, S8⟩, Hk⟩
  sl_exec
  ihave S3 := (held_put c mO1 s.o1 (size := S512x128.size) _ _ (k0_pay9 (maskAt s r) s.sup (degAt s r) X.gb1) o11 (by rw [View.readAt_rep_unit mMask.view _ _ o9 (inb_mask r), View.readAt_rep_unit mDeg.view _ _ o10 (inb_deg r), View.readAt_rep_full, View.readAt_rep_full]; rfl)) $$ S3
  sl_step
  iapply Hk
  dsimp only [staged, carried, mean1]
  iframe

set_option maxHeartbeats 4000000 in
/-- The first block of rows of the second mean layer, its projection first. -/
theorem run_sup2 (c1 : ¬ at0 i = 1#1) (c2 : ¬ k0_cond2 i = 1#1) (c3 : ¬ k0_cond3 i = 1#1) (c4 : ¬ k0_cond4 i = 1#1) (c5 : ¬ k0_cond5 i = 1#1) (c6 : ¬ at12 i = 1#1) (c7 : ¬ k0_cond7 i = 1#1) (c8 : at16 i = 1#1) (c9 : k0_cond9 i = 1#1)
    (o12 : k0_off12 i = ![512 * r.val, 0]) (o13 : k0_off13 i = ![512 * r.val, 0]) (o14 : k0_off14 i = ![512 * r.val, 0]) :
    Runs c i a2 h2 a3 h3 a4 h4 a5 h5 a6 h6 a7 h7 a8 h8 a9 h9 a10 h10 a11 h11 A X Y s (outBlk X r (sup2 X s)) (sup2 X s) := by
  intro K
  simp only [theBody, cc0__main_body_eq_skeleton]; unfold cc0__main_body_skel
  iintro ⟨⟨H2, H3, H4, H5, H6, H7, H8, H9, H10⟩, H11, ⟨S0, S1, S2, S3, S4, S5, S6, S7, S8⟩, Hk⟩
  sl_exec
  have E4 : mSup.view.read (Elt F) (mSup.view.writes (Elt F) (mSup.view.rep s.sup) (run_sup2.sl.S4_1 a9 X s)) = k0_pay10 s.o1 X.gw2 := by
    unfold run_sup2.sl.S4_1
    rw [View.read_writes_full, View.readAt_rep_full, View.readAt_rep_full]
  have V27 : run_sup2.sl.v27 a9 X s = k0_pay10 s.o1 X.gw2 := by
    unfold run_sup2.sl.v27
    unfold run_sup2.sl.S4_1; rw [View.readCov_full, View.readAt_rep_full, View.readAt_rep_full]
  ihave S4 := (held_of_read c mSup _ _ E4) $$ S4
  ihave H11 := (held_full c a11 _ _ _ (k0_pay11 (maskAt s r) (k0_pay10 s.o1 X.gw2) (degAt s r) (o1At s r) X.gb2) _ (by rw [View.readAt_rep_unit mMask.view _ _ o12 (inb_mask r), View.readAt_rep_unit mDeg.view _ _ o13 (inb_deg r), View.readAt_rep_unit mO1.view _ _ o14 (inb_o1 r), V27, View.readAt_rep_full]; first | rfl | rw [])) $$ H11
  sl_step
  iapply Hk
  dsimp only [staged, carried, outBlk, sup2, maskAt, degAt, o1At]
  iframe

set_option maxHeartbeats 4000000 in
/-- A later block of rows of the second mean layer. -/
theorem run_out (c1 : ¬ at0 i = 1#1) (c2 : ¬ k0_cond2 i = 1#1) (c3 : ¬ k0_cond3 i = 1#1) (c4 : ¬ k0_cond4 i = 1#1) (c5 : ¬ k0_cond5 i = 1#1) (c6 : ¬ at12 i = 1#1) (c7 : ¬ k0_cond7 i = 1#1) (c8 : ¬ at16 i = 1#1) (c9 : k0_cond9 i = 1#1)
    (o12 : k0_off12 i = ![512 * r.val, 0]) (o13 : k0_off13 i = ![512 * r.val, 0]) (o14 : k0_off14 i = ![512 * r.val, 0]) :
    Runs c i a2 h2 a3 h3 a4 h4 a5 h5 a6 h6 a7 h7 a8 h8 a9 h9 a10 h10 a11 h11 A X Y s (outBlk X r s) s := by
  intro K
  simp only [theBody, cc0__main_body_eq_skeleton]; unfold cc0__main_body_skel
  iintro ⟨⟨H2, H3, H4, H5, H6, H7, H8, H9, H10⟩, H11, ⟨S0, S1, S2, S3, S4, S5, S6, S7, S8⟩, Hk⟩
  sl_exec
  ihave H11 := (held_full c a11 _ _ _ (k0_pay11 (maskAt s r) s.sup (degAt s r) (o1At s r) X.gb2) _ (by rw [View.readAt_rep_unit mMask.view _ _ o12 (inb_mask r), View.readAt_rep_unit mDeg.view _ _ o13 (inb_deg r), View.readAt_rep_unit mO1.view _ _ o14 (inb_o1 r), View.readAt_rep_full, View.readAt_rep_full]; first | rfl | rw [])) $$ H11
  sl_step
  iapply Hk
  dsimp only [staged, carried, outBlk]
  iframe

set_option maxHeartbeats 4000000 in
/-- The first point: the preparation, then the first block of rows of the first attention phase. -/
theorem run_prep0 (c1 : at0 i = 1#1) (c2 : k0_cond2 i = 1#1) (c3 : k0_cond3 i = 1#1) (c4 : ¬ k0_cond4 i = 1#1) (c5 : ¬ k0_cond5 i = 1#1) (c6 : ¬ at12 i = 1#1) (c7 : ¬ k0_cond7 i = 1#1) (c8 : ¬ at16 i = 1#1) (c9 : ¬ k0_cond9 i = 1#1)
    (o1 : k0_off1 i = ![0, 512 * r.val, 0]) (o2 : k0_off2 i = ![0, 0, 0]) (o3 : k0_off3 i = ![0, 0, 0]) (o4 : k0_off4 i = ![512 * r.val, 0]) (o5 : k0_off5 i = ![512 * r.val, 0]) (o6 : k0_off6 i = ![512 * r.val, 0]) :
    Runs c i a2 h2 a3 h3 a4 h4 a5 h5 a6 h6 a7 h7 a8 h8 a9 h9 a10 h10 a11 h11 A X Y s Y (attn0 A r (prep X s)) := by
  intro K
  simp only [theBody, cc0__main_body_eq_skeleton]; unfold cc0__main_body_skel
  iintro ⟨⟨H2, H3, H4, H5, H6, H7, H8, H9, H10⟩, H11, ⟨S0, S1, S2, S3, S4, S5, S6, S7, S8⟩, Hk⟩
  sl_exec
  have e3 := View.readAt_rep_full (Val := Elt F) a3.view X.x inb_S2048x256_S2048x256_0_0
  have E5 : mWhp.view.read (Elt F) (mWhp.view.writes (Elt F) mWhp.view.junk (run_prep0.sl.S5_3 a3 a4 X)) = (prep X s).whp := by
    have h1 : run_prep0.sl.v114 a3 a4 X = k0_pay27 (k0_pay20 X.x (wk X 1)) := by
      change k0_pay27 (run_prep0.sl.r_2 a3 a4 X) = _
      unfold run_prep0.sl.r_2
      simp only [e3, readAt_win]; rfl
    unfold run_prep0.sl.S5_3
    rw [read_stack]
    rw [h1]; unfold run_prep0.sl.v119 run_prep0.sl.v118 run_prep0.sl.v116 run_prep0.sl.cst_75 run_prep0.sl.r
    simp only [e3, readAt_win]; rfl
  have E6 : mQ.view.read (Elt F) (mQ.view.writes (Elt F) mQ.view.junk (run_prep0.sl.S6_3 a3 a4 a5 a6 X)) = (prep X s).q := by
    unfold run_prep0.sl.S6_3
    rw [read_stack]
    unfold run_prep0.sl.v122 run_prep0.sl.v121 run_prep0.sl.v119 run_prep0.sl.v118 run_prep0.sl.v116 run_prep0.sl.v93 run_prep0.sl.cst_79 run_prep0.sl.cst_75 run_prep0.sl.r_5
    simp only [e3, readAt_win]; rfl
  have E7 : mG1.view.read (Elt F) (mG1.view.writes (Elt F) mG1.view.junk (run_prep0.sl.S7_3 a3 a4 a6 X)) = (prep X s).g1 := by
    unfold run_prep0.sl.S7_3
    rw [read_stack]
    unfold run_prep0.sl.v99 run_prep0.sl.v119 run_prep0.sl.v118 run_prep0.sl.v116 run_prep0.sl.v96 run_prep0.sl.v95 run_prep0.sl.v94 run_prep0.sl.cst_75 run_prep0.sl.r_3 run_prep0.sl.r_4
    simp only [e3, readAt_win]; rfl
  have E8 : mG2.view.read (Elt F) (mG2.view.writes (Elt F) mG2.view.junk (run_prep0.sl.S8_3 a3 a4 a6 X)) = (prep X s).g2 := by
    unfold run_prep0.sl.S8_3
    rw [read_stack]
    unfold run_prep0.sl.r_1 run_prep0.sl.v107 run_prep0.sl.v119 run_prep0.sl.v118 run_prep0.sl.v116 run_prep0.sl.v104 run_prep0.sl.v103 run_prep0.sl.v102 run_prep0.sl.v95 run_prep0.sl.v94 run_prep0.sl.cst_75 run_prep0.sl.cst_62 run_prep0.sl.r_3 run_prep0.sl.r_4
    simp only [e3, readAt_win]; rfl
  ihave S2 := (held_put c mHp s.hp (size := S512x64.size) _ _ (k0_pay3 A (qAt (prep X s) 0 r) (g2At (prep X s) 0) (g1At (prep X s) 0) (whpAt (prep X s) 0)) o4 (by rw [View.readAt_rep_full, View.readAt_unit mQ.view _ _ o1 (inb_q 0 r), View.readAt_unit mG2.view _ _ o2 (inb_g 0), View.readAt_unit mG1.view _ _ o2 (inb_g 0), View.readAt_unit mWhp.view _ _ o3 (inb_whp 0), E5, E6, E7, E8]; rfl)) $$ S2
  ihave S0 := (held_put c mMask s.mask (size := S512x2048.size) _ _ (k0_pay4 A) o5 (by rw [View.readAt_rep_full])) $$ S0
  ihave S1 := (held_put c mDeg s.deg (size := S512x1.size) _ _ (k0_pay5 A) o6 (by rw [View.readAt_rep_full])) $$ S1
  ihave S5 := (held_of_read c mWhp _ _ E5) $$ S5
  ihave S6 := (held_of_read c mQ _ _ E6) $$ S6
  ihave S7 := (held_of_read c mG1 _ _ E7) $$ S7
  ihave S8 := (held_of_read c mG2 _ _ E8) $$ S8
  sl_step
  iapply Hk
  dsimp only [staged, carried, attn0]
  simp only [show (prep X s).mask = s.mask from rfl, show (prep X s).deg = s.deg from rfl, show (prep X s).hp = s.hp from rfl, show (prep X s).o1 = s.o1 from rfl, show (prep X s).sup = s.sup from rfl]
  iframe

end

end Cert.KernelIdeal.Hand

end
-- ==== Proof.KernelIdeal.Sched.lean ====
/-
  The grid's schedule in closed form: point `t` is block of rows `t % 4` of phase `t / 4`, which of the body's conditions hold there, and the
  offsets of the windows that the body reads and writes there. And what one point's body leaves, read off `Body` at that point: `step`.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- Which points each condition of the body holds at. -/
theorem conds : ∀ t : Fin grid0.N,
    (at0 (grid0.coords t) = 1#1 ↔ t.val = 0) ∧ (k0_cond2 (grid0.coords t) = 1#1 ↔ t.val < 12) ∧ (k0_cond3 (grid0.coords t) = 1#1 ↔ t.val < 4)
    ∧ (k0_cond4 (grid0.coords t) = 1#1 ↔ 4 ≤ t.val ∧ t.val < 8) ∧ (k0_cond5 (grid0.coords t) = 1#1 ↔ 8 ≤ t.val ∧ t.val < 12)
    ∧ (at12 (grid0.coords t) = 1#1 ↔ t.val = 12) ∧ (k0_cond7 (grid0.coords t) = 1#1 ↔ 12 ≤ t.val ∧ t.val < 16)
    ∧ (at16 (grid0.coords t) = 1#1 ↔ t.val = 16) ∧ (k0_cond9 (grid0.coords t) = 1#1 ↔ 16 ≤ t.val) := by
  decide +kernel

/-- Where each point's reads and writes of the scratch buffers begin. -/
theorem offs : ∀ t : Fin grid0.N,
    k0_off1 (grid0.coords t) = ![t.val / 4, 512 * (t.val % 4), 0] ∧ k0_off2 (grid0.coords t) = ![t.val / 4, 0, 0] ∧ k0_off3 (grid0.coords t) = ![t.val / 4, 0, 0]
    ∧ k0_off4 (grid0.coords t) = ![512 * (t.val % 4), 0] ∧ k0_off5 (grid0.coords t) = ![512 * (t.val % 4), 0] ∧ k0_off6 (grid0.coords t) = ![512 * (t.val % 4), 0]
    ∧ k0_off7 (grid0.coords t) = ![512 * (t.val % 4), 0] ∧ k0_off8 (grid0.coords t) = ![512 * (t.val % 4), 0] ∧ k0_off9 (grid0.coords t) = ![512 * (t.val % 4), 0]
    ∧ k0_off10 (grid0.coords t) = ![512 * (t.val % 4), 0] ∧ k0_off11 (grid0.coords t) = ![512 * (t.val % 4), 0] ∧ k0_off12 (grid0.coords t) = ![512 * (t.val % 4), 0]
    ∧ k0_off13 (grid0.coords t) = ![512 * (t.val % 4), 0] ∧ k0_off14 (grid0.coords t) = ![512 * (t.val % 4), 0] := by
  decide +kernel

/-- The block of rows that point `n` works on. -/
abbrev rowBlk (n : ℕ) : Fin 4 := ⟨n % 4, Nat.mod_lt _ (by decide)⟩

/-- What the staged output block holds after point `n`: in the last phase the block of rows of the result, before it whatever it held. -/
def outAfter (A : Vec F S1x512x2048 .f32) (X : Ops F) (n : ℕ) (Y : Vec F S512x128 .f32) (s : St F) : Vec F S512x128 .f32 :=
  if 16 ≤ n then outBlk X (rowBlk n) (step A X n s) else Y

section
variable (c : Dev nD) (t : Fin grid0.N)
  (a2 : Memref sig .tc .vmem S1x512x2048 .f32) (h2 : a2.IsWhole) (a3 : Memref sig .tc .vmem S2048x256 .bf16) (h3 : a3.IsWhole)
  (a4 : Memref sig .tc .vmem S3x256x64 .bf16) (h4 : a4.IsWhole) (a5 : Memref sig .tc .vmem S3x64x1 .f32) (h5 : a5.IsWhole)
  (a6 : Memref sig .tc .vmem S3x1x64 .f32) (h6 : a6.IsWhole) (a7 : Memref sig .tc .vmem S64x128 .bf16) (h7 : a7.IsWhole)
  (a8 : Memref sig .tc .vmem S1x128 .f32) (h8 : a8.IsWhole) (a9 : Memref sig .tc .vmem S128x128 .bf16) (h9 : a9.IsWhole)
  (a10 : Memref sig .tc .vmem S1x128 .f32) (h10 : a10.IsWhole) (a11 : Memref sig .tc .vmem S512x128 .f32) (h11 : a11.IsWhole)
  (A : Vec F S1x512x2048 .f32) (X : Ops F) (Y : Vec F S512x128 .f32) (s : St F)

/-- One point's body: the carried buffers are stepped, and the output block is as `outAfter` says. -/
theorem run_point : Runs c (grid0.coords t) a2 h2 a3 h3 a4 h4 a5 h5 a6 h6 a7 h7 a8 h8 a9 h9 a10 h10 a11 h11 A X Y s
    (outAfter A X t.val Y s) (step A X t.val s) := by
  obtain ⟨c1, c2, c3, c4, c5, c6, c7, c8, c9⟩ := conds t
  obtain ⟨o1, o2, o3, o4, o5, o6, o7, o8, o9, o10, o11, o12, o13, o14⟩ := offs t
  have hN : t.val < 20 := t.isLt
  unfold outAfter step
  by_cases e0 : t.val = 0
  · have ht : t.val / 4 = 0 := by omega
    rw [ht] at o1 o2 o3
    rw [if_neg (by omega), if_pos e0]
    exact run_prep0 (r := rowBlk t.val) c _ a2 h2 a3 h3 a4 h4 a5 h5 a6 h6 a7 h7 a8 h8 a9 h9 a10 h10 a11 h11 A X Y s (c1.mpr e0) (c2.mpr (by omega)) (c3.mpr (by omega)) (by rw [c4]; omega) (by rw [c5]; omega) (by rw [c6]; omega) (by rw [c7]; omega) (by rw [c8]; omega) (by rw [c9]; omega)
      o1 o2 o3 o4 o5 o6
  by_cases e4 : t.val < 4
  · have ht : t.val / 4 = 0 := by omega
    rw [ht] at o1 o2 o3
    rw [if_neg (by omega), if_neg e0, if_pos e4]
    exact run_attn0 (r := rowBlk t.val) c _ a2 h2 a3 h3 a4 h4 a5 h5 a6 h6 a7 h7 a8 h8 a9 h9 a10 h10 a11 h11 A X Y s (by rw [c1]; omega) (c2.mpr (by omega)) (c3.mpr (by omega)) (by rw [c4]; omega) (by rw [c5]; omega) (by rw [c6]; omega) (by rw [c7]; omega) (by rw [c8]; omega) (by rw [c9]; omega)
      o1 o2 o3 o4 o5 o6
  by_cases e8 : t.val < 8
  · have ht : t.val / 4 = 1 := by omega
    rw [ht] at o1 o2 o3
    rw [if_neg (by omega), if_neg e0, if_neg e4, if_pos e8]
    exact run_attn1 (r := rowBlk t.val) c _ a2 h2 a3 h3 a4 h4 a5 h5 a6 h6 a7 h7 a8 h8 a9 h9 a10 h10 a11 h11 A X Y s (by rw [c1]; omega) (c2.mpr (by omega)) (by rw [c3]; omega) (c4.mpr (by omega)) (by rw [c5]; omega) (by rw [c6]; omega) (by rw [c7]; omega) (by rw [c8]; omega) (by rw [c9]; omega)
      o1 o2 o3 o7
  by_cases e12 : t.val < 12
  · have ht : t.val / 4 = 2 := by omega
    rw [ht] at o1 o2 o3
    rw [if_neg (by omega), if_neg e0, if_neg e4, if_neg e8, if_pos e12]
    exact run_attn2 (r := rowBlk t.val) c _ a2 h2 a3 h3 a4 h4 a5 h5 a6 h6 a7 h7 a8 h8 a9 h9 a10 h10 a11 h11 A X Y s (by rw [c1]; omega) (c2.mpr (by omega)) (by rw [c3]; omega) (by rw [c4]; omega) (c5.mpr (by omega)) (by rw [c6]; omega) (by rw [c7]; omega) (by rw [c8]; omega) (by rw [c9]; omega)
      o1 o2 o3 o8
  by_cases e13 : t.val = 12
  · rw [if_neg (by omega), if_neg e0, if_neg e4, if_neg e8, if_neg e12, if_pos e13]
    exact run_sup1 (r := rowBlk t.val) c _ a2 h2 a3 h3 a4 h4 a5 h5 a6 h6 a7 h7 a8 h8 a9 h9 a10 h10 a11 h11 A X Y s (by rw [c1]; omega) (by rw [c2]; omega) (by rw [c3]; omega) (by rw [c4]; omega) (by rw [c5]; omega) (c6.mpr e13) (c7.mpr (by omega)) (by rw [c8]; omega) (by rw [c9]; omega)
      o9 o10 o11
  by_cases e16 : t.val < 16
  · rw [if_neg (by omega), if_neg e0, if_neg e4, if_neg e8, if_neg e12, if_neg e13, if_pos e16]
    exact run_mean1 (r := rowBlk t.val) c _ a2 h2 a3 h3 a4 h4 a5 h5 a6 h6 a7 h7 a8 h8 a9 h9 a10 h10 a11 h11 A X Y s (by rw [c1]; omega) (by rw [c2]; omega) (by rw [c3]; omega) (by rw [c4]; omega) (by rw [c5]; omega) (by rw [c6]; omega) (c7.mpr (by omega)) (by rw [c8]; omega) (by rw [c9]; omega)
      o9 o10 o11
  by_cases e17 : t.val = 16
  · rw [if_pos (by omega), if_neg e0, if_neg e4, if_neg e8, if_neg e12, if_neg e13, if_neg e16, if_pos e17]
    exact run_sup2 (r := rowBlk t.val) c _ a2 h2 a3 h3 a4 h4 a5 h5 a6 h6 a7 h7 a8 h8 a9 h9 a10 h10 a11 h11 A X Y s (by rw [c1]; omega) (by rw [c2]; omega) (by rw [c3]; omega) (by rw [c4]; omega) (by rw [c5]; omega) (by rw [c6]; omega) (by rw [c7]; omega) (c8.mpr e17) (c9.mpr (by omega))
      o12 o13 o14
  rw [if_pos (by omega), if_neg e0, if_neg e4, if_neg e8, if_neg e12, if_neg e13, if_neg e16, if_neg e17]
  exact run_out (r := rowBlk t.val) c _ a2 h2 a3 h3 a4 h4 a5 h5 a6 h6 a7 h7 a8 h8 a9 h9 a10 h10 a11 h11 A X Y s (by rw [c1]; omega) (by rw [c2]; omega) (by rw [c3]; omega) (by rw [c4]; omega) (by rw [c5]; omega) (by rw [c6]; omega) (by rw [c7]; omega) (by rw [c8]; omega) (c9.mpr (by omega))
    o12 o13 o14
end

end Cert.KernelIdeal.Hand

end
-- ==== Proof.KernelIdeal.Run.lean ====
/-
  The kernel's run: the pipeline's twenty bodies carry the nine buffers along `traj` from whatever they hold at the start, every argument array
  ends as launched, every counter at zero, and the result array's blocks of rows are those that the last phase writes.
-/
module

public import proofs.«01_k».proof.Proof.KernelIdeal.Sched
public import proofs.«01_k».proof.Proof.Gen.KernelIdeal.Frame
public import Idealize.ShloMosaic.Lib.Pipeline.ArrRel
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The operands that stay in place, as the host's operations before the kernel leave them. -/
def opsAt (c : Dev nD) : Ops F where
  x := V m c main_v5
  w := V m c main_v4
  alo := V m c main_v12
  ahi := V m c main_v22
  gw1 := V m c main_v23
  gb1 := V m c main_v24
  gw2 := V m c main_v25
  gb2 := V m c main_v26

/-- The grid has a point. -/
theorem points_pos : 0 < cfg0.N := (by decide : 0 < grid0.N)

/-- The block of the adjacency that point `n` reads. -/
def adjAt (c : Dev nD) (n : ℕ) : Vec F S1x512x2048 .f32 :=
  if h : n < cfg0.N then iblk m c 0 ⟨n, h⟩ else iblk m c 0 ⟨0, points_pos⟩

/-- The adjacency's block at a point, by the point's number. -/
theorem iblk_0 (c : Dev nD) (t : Fin cfg0.N) : iblk m c 0 t = adjAt m c t.val := by
  unfold adjAt; rw [dif_pos t.isLt]

/-- Operand 1 has one block. -/
theorem blk_1 : ∀ t : Fin cfg0.N, win0_1.index t = ![0, 0] := (by decide +kernel : ∀ t : Fin grid0.N, _)
/-- Operand 2 has one block. -/
theorem blk_2 : ∀ t : Fin cfg0.N, win0_2.index t = ![0, 0, 0] := (by decide +kernel : ∀ t : Fin grid0.N, _)
/-- Operand 3 has one block. -/
theorem blk_3 : ∀ t : Fin cfg0.N, win0_3.index t = ![0, 0, 0] := (by decide +kernel : ∀ t : Fin grid0.N, _)
/-- Operand 4 has one block. -/
theorem blk_4 : ∀ t : Fin cfg0.N, win0_4.index t = ![0, 0, 0] := (by decide +kernel : ∀ t : Fin grid0.N, _)
/-- Operand 5 has one block. -/
theorem blk_5 : ∀ t : Fin cfg0.N, win0_5.index t = ![0, 0] := (by decide +kernel : ∀ t : Fin grid0.N, _)
/-- Operand 6 has one block. -/
theorem blk_6 : ∀ t : Fin cfg0.N, win0_6.index t = ![0, 0] := (by decide +kernel : ∀ t : Fin grid0.N, _)
/-- Operand 7 has one block. -/
theorem blk_7 : ∀ t : Fin cfg0.N, win0_7.index t = ![0, 0] := (by decide +kernel : ∀ t : Fin grid0.N, _)
/-- Operand 8 has one block. -/
theorem blk_8 : ∀ t : Fin cfg0.N, win0_8.index t = ![0, 0] := (by decide +kernel : ∀ t : Fin grid0.N, _)
/-- The one block of operand 1 is the whole of it. -/
theorem iblk_1 (c : Dev nD) (t : Fin cfg0.N) : iblk m c 1 t = (opsAt m c).x := by
  funext y
  blk_simp [iblk, opsAt]
  refine congrArg (V m c main_v5) ?_
  blk_ext [blk_1 t]
/-- The one block of operand 2 is the whole of it. -/
theorem iblk_2 (c : Dev nD) (t : Fin cfg0.N) : iblk m c 2 t = (opsAt m c).w := by
  funext y
  blk_simp [iblk, opsAt]
  refine congrArg (V m c main_v4) ?_
  blk_ext [blk_2 t]
/-- The one block of operand 3 is the whole of it. -/
theorem iblk_3 (c : Dev nD) (t : Fin cfg0.N) : iblk m c 3 t = (opsAt m c).alo := by
  funext y
  blk_simp [iblk, opsAt]
  refine congrArg (V m c main_v12) ?_
  blk_ext [blk_3 t]
/-- The one block of operand 4 is the whole of it. -/
theorem iblk_4 (c : Dev nD) (t : Fin cfg0.N) : iblk m c 4 t = (opsAt m c).ahi := by
  funext y
  blk_simp [iblk, opsAt]
  refine congrArg (V m c main_v22) ?_
  blk_ext [blk_4 t]
/-- The one block of operand 5 is the whole of it. -/
theorem iblk_5 (c : Dev nD) (t : Fin cfg0.N) : iblk m c 5 t = (opsAt m c).gw1 := by
  funext y
  blk_simp [iblk, opsAt]
  refine congrArg (V m c main_v23) ?_
  blk_ext [blk_5 t]
/-- The one block of operand 6 is the whole of it. -/
theorem iblk_6 (c : Dev nD) (t : Fin cfg0.N) : iblk m c 6 t = (opsAt m c).gb1 := by
  funext y
  blk_simp [iblk, opsAt]
  refine congrArg (V m c main_v24) ?_
  blk_ext [blk_6 t]
/-- The one block of operand 7 is the whole of it. -/
theorem iblk_7 (c : Dev nD) (t : Fin cfg0.N) : iblk m c 7 t = (opsAt m c).gw2 := by
  funext y
  blk_simp [iblk, opsAt]
  refine congrArg (V m c main_v25) ?_
  blk_ext [blk_7 t]
/-- The one block of operand 8 is the whole of it. -/
theorem iblk_8 (c : Dev nD) (t : Fin cfg0.N) : iblk m c 8 t = (opsAt m c).gb2 := by
  funext y
  blk_simp [iblk, opsAt]
  refine congrArg (V m c main_v26) ?_
  blk_ext [blk_8 t]

/-- What is known of the one pipeline on core `c`: the operands' blocks stay as fetched, and the carried buffers run along `traj`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => fun _ => Classical.arbitrary _
  Φ t := iprop(∃ s₀, carried c (traj (adjAt m c) (opsAt m c) s₀ t.val) ∗ ∃ r, prngReg c r)
  q _ := fullShare
  owed _ := 0

/-- The one window whose contents are held to a relation: the result's. -/
def free : Fin cfg0.W → Bool
  | ⟨9, _⟩ => true
  | _ => false

/-- What the body leaves in the result's window at a point of the last phase. -/
def leftOut (c : Dev nD) (n : ℕ) (X : Vec F S512x128 .f32) : Prop :=
  16 ≤ n → ∃ s₀, X = outBlk (opsAt m c) (rowBlk n) (traj (adjAt m c) (opsAt m c) s₀ (n + 1))

/-- What the body leaves in a window that is held to a relation. -/
def left (c : Dev nD) (w : Fin cfg0.W) (t : Fin cfg0.N) : ((cfg0.win w).block.Idx → Elt F (cfg0.win w).elt) → Prop :=
  match w with
  | ⟨9, _⟩ => fun X => leftOut m c t.val X
  | _ => fun _ => True

/-- A window's array is the buffer's contents at the region's start. -/
theorem dat_A (c : Dev nD) (w : Fin cfg0.W) : (dat m c).A w = V m c (Pipeline.arrRef spec0 w) := by dsimp only [dat]
/-- Window 0 holds after a point the block that it was fetched with. -/
theorem dat_after0 (c : Dev nD) (t : Fin cfg0.N) : (dat m c).after 0 t = iblk m c 0 t := by dsimp only [dat]
/-- Window 1 holds after a point the block that it was fetched with. -/
theorem dat_after1 (c : Dev nD) (t : Fin cfg0.N) : (dat m c).after 1 t = iblk m c 1 t := by dsimp only [dat]
/-- Window 2 holds after a point the block that it was fetched with. -/
theorem dat_after2 (c : Dev nD) (t : Fin cfg0.N) : (dat m c).after 2 t = iblk m c 2 t := by dsimp only [dat]
/-- Window 3 holds after a point the block that it was fetched with. -/
theorem dat_after3 (c : Dev nD) (t : Fin cfg0.N) : (dat m c).after 3 t = iblk m c 3 t := by dsimp only [dat]
/-- Window 4 holds after a point the block that it was fetched with. -/
theorem dat_after4 (c : Dev nD) (t : Fin cfg0.N) : (dat m c).after 4 t = iblk m c 4 t := by dsimp only [dat]
/-- Window 5 holds after a point the block that it was fetched with. -/
theorem dat_after5 (c : Dev nD) (t : Fin cfg0.N) : (dat m c).after 5 t = iblk m c 5 t := by dsimp only [dat]
/-- Window 6 holds after a point the block that it was fetched with. -/
theorem dat_after6 (c : Dev nD) (t : Fin cfg0.N) : (dat m c).after 6 t = iblk m c 6 t := by dsimp only [dat]
/-- Window 7 holds after a point the block that it was fetched with. -/
theorem dat_after7 (c : Dev nD) (t : Fin cfg0.N) : (dat m c).after 7 t = iblk m c 7 t := by dsimp only [dat]
/-- Window 8 holds after a point the block that it was fetched with. -/
theorem dat_after8 (c : Dev nD) (t : Fin cfg0.N) : (dat m c).after 8 t = iblk m c 8 t := by dsimp only [dat]

/-- What the body meets at a point, and what it leaves: the carried buffers, the operands' blocks, and the result's window. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ d, owns (c : Thread nD τ) (st0_5 t) fullShare ((dat m c).before 5 t d)) ∗ (∃ d, owns (c : Thread nD τ) (st0_6 t) fullShare ((dat m c).before 6 t d)) ∗ (∃ d, owns (c : Thread nD τ) (st0_7 t) fullShare ((dat m c).before 7 t d)) ∗ (∃ d, owns (c : Thread nD τ) (st0_8 t) fullShare ((dat m c).before 8 t d))
    ∗ (∃ Y, ⌜((dat m c).toRRel free (left m c)).Finds 9 t Y⌝ ∗ owns (c : Thread nD τ) (st0_9 t) fullShare Y))
/-- See `bodyPre`. -/
def bodyPost (c : Dev nD) (t : Fin cfg0.N) : sProp 𝕄 :=
  iprop((dat m c).Φ t.succ ∗ (dat m c).owesAt () t.succ
    ∗ owns (c : Thread nD τ) (st0_0 t) fullShare ((dat m c).after 0 t) ∗ owns (c : Thread nD τ) (st0_1 t) fullShare ((dat m c).after 1 t) ∗ owns (c : Thread nD τ) (st0_2 t) fullShare ((dat m c).after 2 t) ∗ owns (c : Thread nD τ) (st0_3 t) fullShare ((dat m c).after 3 t) ∗ owns (c : Thread nD τ) (st0_4 t) fullShare ((dat m c).after 4 t) ∗ owns (c : Thread nD τ) (st0_5 t) fullShare ((dat m c).after 5 t) ∗ owns (c : Thread nD τ) (st0_6 t) fullShare ((dat m c).after 6 t) ∗ owns (c : Thread nD τ) (st0_7 t) fullShare ((dat m c).after 7 t) ∗ owns (c : Thread nD τ) (st0_8 t) fullShare ((dat m c).after 8 t)
    ∗ (∃ X, ⌜left m c 9 t X⌝ ∗ owns (c : Thread nD τ) (st0_9 t) fullShare X))

/-- One point's body meets the pipeline's obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dat m c) (dat_A m c 0) (dat_after0 m c) t, dat_after0, iblk_0, owns_eq_rep]
  simp only [before0_1_of m (dat m c) (dat_A m c 1) (dat_after1 m c) t, dat_after1, iblk_1, owns_eq_rep]
  simp only [before0_2_of m (dat m c) (dat_A m c 2) (dat_after2 m c) t, dat_after2, iblk_2, owns_eq_rep]
  simp only [before0_3_of m (dat m c) (dat_A m c 3) (dat_after3 m c) t, dat_after3, iblk_3, owns_eq_rep]
  simp only [before0_4_of m (dat m c) (dat_A m c 4) (dat_after4 m c) t, dat_after4, iblk_4, owns_eq_rep]
  simp only [before0_5_of m (dat m c) (dat_A m c 5) (dat_after5 m c) t, dat_after5, iblk_5, owns_eq_rep]
  simp only [before0_6_of m (dat m c) (dat_A m c 6) (dat_after6 m c) t, dat_after6, iblk_6, owns_eq_rep]
  simp only [before0_7_of m (dat m c) (dat_A m c 7) (dat_after7 m c) t, dat_after7, iblk_7, owns_eq_rep]
  simp only [before0_8_of m (dat m c) (dat_A m c 8) (dat_after8 m c) t, dat_after8, iblk_8, owns_eq_rep]
  unfold Dat.owesAt Pipeline.owesWithin
  rw [show (dat m c).Φ t.castSucc = iprop(∃ s₀, carried c (traj (adjAt m c) (opsAt m c) s₀ t.val) ∗ ∃ r, prngReg c r) from rfl,
    show (dat m c).Φ t.succ = iprop(∃ s₀, carried c (traj (adjAt m c) (opsAt m c) s₀ (t.val + 1)) ∗ ∃ r, prngReg c r) from rfl]
  rw [show (dat m c).owed t.castSucc = 0 from rfl, show (dat m c).owed t.succ = 0 from rfl]
  iintro ⟨⟨%s₀, Hs, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, -, HY⟩⟩
  iapply (run_point c t (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) (st0_9 t) (hstage0_9 _) (adjAt m c t.val) (opsAt m c) Y (traj (adjAt m c) (opsAt m c) s₀ t.val) _)
  isplitl [H0 H1 H2 H3 H4 H5 H6 H7 H8]
  · dsimp only [staged]; iframe
  isplitl [HY]; · iexact HY
  isplitl [Hs]; · iexact Hs
  iintro ⟨HX, HY, Hs⟩
  isplitl [Hs Hg]
  · iexists s₀; isplitl [Hs]; · iexact Hs
    iexact Hg
  isplitl [HW]
  · iexists W; isplitr; · ipureintro; exact fun _ _ => Or.inl trivial
    iexact HW
  icases HX with ⟨H0, H1, H2, H3, H4, H5, H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; isplitr
  swap; · iexact HY
  ipureintro
  intro h
  exact ⟨s₀, if_pos h⟩

/-- The body that the pipeline calls at a point is the kernel's. -/
theorem defs₀_row (t : Fin cfg0.N) : defs₀ (F := F) .tc cfg0.body (cfg0.bodyArgs t (cfg0.slots t)) = bodyAt0 t := by
  unfold defs₀; rw [Defs.onTc_tc]

/-- The body does at every point what the data say. -/
theorem body_obligation (c : Dev nD) : BodyObligationRel (dat m c) (defs₀ (F := F)) Variants.none () Set.univ free (left m c) := fun t => by
  rw [bigSep_W0, bigSep_W0, defs₀_row]
  exact triple_restated (sound_body m c t) rfl .rfl fun _ => .rfl

/-- The carried buffers and the rest of the scratch are the pipeline's scratch at some contents. -/
theorem held_whole (c : Dev nD) (b : Ref sig .tc) (f : b.ty.Contents (Elt F)) :
    (held c (Memref.whole b) f : sProp 𝕄) = ((c : Thread nD τ).loc b ↦{fullShare} f) := by
  rw [← owns_whole, owns_eq_rep]

/-- The buffers as the region hands them over are the carried ones at some state. -/
theorem phi_in (c : Dev nD) : Pipeline.ΦA spec0 c ⊢ ((dat m c).Φ 0 : sProp 𝕄) := by
  rw [show (dat m c).Φ 0 = iprop(∃ s₀, carried c s₀ ∗ ∃ r, prngReg c r) from rfl]
  unfold Pipeline.ΦA
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hg⟩
  iexists (⟨f0, f1, f2, f3, f4, f5, f6, f7, f8⟩ : St F)
  isplitr [Hg]
  swap; · iexact Hg
  dsimp only [carried]
  rw [show held c mMask f0 = _ from held_whole c cc0_scratch0 f0, show held c mDeg f1 = _ from held_whole c cc0_scratch1 f1, show held c mHp f2 = _ from held_whole c cc0_scratch2 f2, show held c mO1 f3 = _ from held_whole c cc0_scratch3 f3, show held c mSup f4 = _ from held_whole c cc0_scratch4 f4, show held c mWhp f5 = _ from held_whole c cc0_scratch5 f5, show held c mQ f6 = _ from held_whole c cc0_scratch6 f6, show held c mG1 f7 = _ from held_whole c cc0_scratch7 f7, show held c mG2 f8 = _ from held_whole c cc0_scratch8 f8]
  iframe

/-- The carried buffers after the last point are the ones that the region takes back. -/
theorem phi_out (c : Dev nD) : ((dat m c).Φ (Fin.last cfg0.N) : sProp 𝕄) ⊢ Pipeline.ΦA spec0 c := by
  rw [show (dat m c).Φ (Fin.last cfg0.N) = iprop(∃ s₀, carried c (traj (adjAt m c) (opsAt m c) s₀ (Fin.last cfg0.N).val) ∗ ∃ r, prngReg c r) from rfl]
  unfold Pipeline.ΦA
  rw [scopedRest0_eq]
  iintro ⟨%s₀, Hs, Hg⟩
  isplitr [Hg]
  swap; · iexact Hg
  generalize traj (adjAt m c) (opsAt m c) s₀ (Fin.last cfg0.N).val = s
  dsimp only [carried]
  rw [show held c mMask s.mask = _ from held_whole c cc0_scratch0 s.mask, show held c mDeg s.deg = _ from held_whole c cc0_scratch1 s.deg, show held c mHp s.hp = _ from held_whole c cc0_scratch2 s.hp, show held c mO1 s.o1 = _ from held_whole c cc0_scratch3 s.o1, show held c mSup s.sup = _ from held_whole c cc0_scratch4 s.sup, show held c mWhp s.whp = _ from held_whole c cc0_scratch5 s.whp, show held c mQ s.q = _ from held_whole c cc0_scratch6 s.q, show held c mG1 s.g1 = _ from held_whole c cc0_scratch7 s.g1, show held c mG2 s.g2 = _ from held_whole c cc0_scratch8 s.g2]
  icases Hs with ⟨H0, H1, H2, H3, H4, H5, H6, H7, H8⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iexists _; iexact H8

set_option backward.isDefEq.respectTransparency.types false in
/-- The run, with what each window's array may hold at the end. -/
theorem run_main : θ_run defs (onTc (τ := τ) (main (F := F))) (s₀ m ρ)
    (fun r => RDat.FramePost cfg0 (fun c => (dat m c).toRRel free (left m c)) (V m) r ∧ r.2.sem = fun _ => 0) :=
  RDat.θ_run_frame_track (Q' := _) cfgs (0 : Fin 1) launch0 defs₀ Variants.none (fun c => (dat m c).toRRel free (left m c)) m ρ main
    (hbody := fun c => (body_obligation m c).toRRel) (hshare := fun c => (dat m c).share_full fun _ => rfl)
    (howed := fun _ _ => rfl) (V := V m) (hmain := hmain m Variants.none) (hA := dat_A m)
    (hin := phi_in m) (hout := phi_out m) (hQ' := fun _ h => h)

end Cert.KernelIdeal.Hand

end
-- ==== Proof.KernelIdeal.Result.lean ====
/-
  What a run of the kernel leaves: every argument array as launched, every counter at zero, and the result array at the blocks of rows that the
  last phase computes from the carried buffers.
-/
module

public import proofs.«01_k».proof.Proof.KernelIdeal.Run

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat RDat)

variable {F : FTy → Type} [FloatOps F] [Named F]
variable (m : (ℓ : Loc nD τ sig) → Buf (Elt F) ℓ) (ρ : Dev nD → PrngReg)

/-- The thirteen arguments are as launched. -/
def argsKept (r : PUnit × MemSt nD τ sig (Elt F)) (c : Dev nD) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)

/-- Element `(512 r + i, j)` of the result is element `(i, j)` of the block that point `16 + r` writes, from some start of the carried buffers. -/
theorem flush_9 : ∀ t : Fin cfg0.N, (cfg0.win 9).flush t = true → 16 ≤ t.val := (by decide +kernel : ∀ t : Fin grid0.N, _)

/-- The points of the last phase write the result's four blocks of rows in order. -/
theorem idx_9 : ∀ t : Fin cfg0.N, 16 ≤ t.val → win0_9.index t = ![t.val % 4, 0] := (by decide +kernel : ∀ t : Fin grid0.N, _)

/-- After the run the thirteen arguments are as they were. -/
theorem args_of_post (r : PUnit × MemSt nD τ sig (Elt F))
    (h : RDat.FramePost cfg0 (fun c => (dat m c).toRRel free (left m c)) (V m) r) (c : Dev nD) : argsKept m r c := by
  have hr := (h c).2
  have h1 : r.2.mem ((c.tc : Thread nD τ).loc main_arg1) = V m c main_arg1 := by
    have e := (h c).1 0
    rw [RDat.ArrAt_in _ 0 rfl] at e
    exact e
  exact ⟨(hr main_arg0 (Pipeline.mem_restRefs_of main_arg0 (by decide) (by decide))).trans (V_main_arg0 m c),
    h1.trans (V_main_arg1 m c),
    (hr main_arg2 (Pipeline.mem_restRefs_of main_arg2 (by decide) (by decide))).trans (V_main_arg2 m c),
    (hr main_arg3 (Pipeline.mem_restRefs_of main_arg3 (by decide) (by decide))).trans (V_main_arg3 m c),
    (hr main_arg4 (Pipeline.mem_restRefs_of main_arg4 (by decide) (by decide))).trans (V_main_arg4 m c),
    (hr main_arg5 (Pipeline.mem_restRefs_of main_arg5 (by decide) (by decide))).trans (V_main_arg5 m c),
    (hr main_arg6 (Pipeline.mem_restRefs_of main_arg6 (by decide) (by decide))).trans (V_main_arg6 m c),
    (hr main_arg7 (Pipeline.mem_restRefs_of main_arg7 (by decide) (by decide))).trans (V_main_arg7 m c),
    (hr main_arg8 (Pipeline.mem_restRefs_of main_arg8 (by decide) (by decide))).trans (V_main_arg8 m c),
    (hr main_arg9 (Pipeline.mem_restRefs_of main_arg9 (by decide) (by decide))).trans (V_main_arg9 m c),
    (hr main_arg10 (Pipeline.mem_restRefs_of main_arg10 (by decide) (by decide))).trans (V_main_arg10 m c),
    (hr main_arg11 (Pipeline.mem_restRefs_of main_arg11 (by decide) (by decide))).trans (V_main_arg11 m c),
    (hr main_arg12 (Pipeline.mem_restRefs_of main_arg12 (by decide) (by decide))).trans (V_main_arg12 m c)⟩

/-- After the run each place of the result holds what some point of the last phase left there. -/
theorem result_of_post (r : PUnit × MemSt nD τ sig (Elt F))
    (h : RDat.FramePost cfg0 (fun c => (dat m c).toRRel free (left m c)) (V m) r) (c : Dev nD)
    (i : S2048x128.Idx) : ∃ (t : Fin cfg0.N) (y : S512x128.Idx) (s₀ : St F), 16 ≤ t.val ∧ i = (win0_9.blk t).view.emb y ∧
      r.2.mem ((c.tc : Thread nD τ).loc main_v27) i = outBlk (opsAt m c) (rowBlk t.val) (traj (adjAt m c) (opsAt m c) s₀ (t.val + 1)) y := by
  obtain ⟨after, hL, hA⟩ := h.exists_exact c
  have e := hA 9
  refine (congrFun e i) ▸ ?_
  refine Dat.arrAt_forall_of_covers (((dat m c).toRRel free (left m c)).withAfter after) (9 : Fin cfg0.W) (fun i v => ∃ (t : Fin cfg0.N) (y : S512x128.Idx) (s₀ : St F), 16 ≤ t.val ∧ i = (win0_9.blk t).view.emb y ∧
      v = outBlk (opsAt m c) (rowBlk t.val) (traj (adjAt m c) (opsAt m c) s₀ (t.val + 1)) y) (by decide +kernel) (fun t hf y => ?_) i
  have hl : leftOut m c t.val (after 9 t) := Dat.toRRel_leaves (w := 9) (dat m c) rfl (hL 9 t hf)
  obtain ⟨s₀, hs⟩ := hl (flush_9 t hf)
  refine ⟨t, y, s₀, flush_9 t hf, rfl, ?_⟩
  exact congrFun hs y

/-- The kernel runs, keeps its arguments and leaves its semaphores at zero. -/
theorem run_frame : θ_run defs (onTc (τ := τ) (main (F := F))) ⟨m, fun _ => 0, ρ⟩
    (fun r => (∀ c : Dev nD, argsKept m r c) ∧ r.2.sem = fun _ => 0) :=
  (θ_run defs _ _).mono (fun r h => ⟨fun c => args_of_post m r h.1 c, h.2⟩) (run_main m ρ)

end Cert.KernelIdeal.Hand

end
-- ==== Proof.KernelIdeal.Tables.lean ====
/-
  What the carried buffers hold before each grid point, block of rows by block of rows, in terms of the operands alone, and from it what the last
  phase writes out.
-/
module

public import proofs.«01_k».proof.Proof.KernelIdeal.Steps
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- A block of rows lies inside one relation's row table. -/
theorem inb_qv (r : Fin 4) : ∀ a, (![0, 512 * r.val, 0] : Fin 3 → ℕ) a + S1x512x1.size a ≤ S1x2048x1.size a := by
  revert r; decide

/-- Rows `512r … 512r+511` of relation `k`'s row table. -/
def qRows (X : Ops F) (k : Fin 3) (r : Fin 4) : Vec F S1x512x1 .f32 := VecWindow.window (qVal X k) ![0, 512 * r.val, 0] S1x512x1.size (inb_qv r)

variable (A : ℕ → Vec F S1x512x2048 .f32) (X : Ops F)

/-- A block of rows of the running sum after the first, the second and the third attention phase. -/
def hp0 (r : Fin 4) : Vec F S512x64 .f32 := k0_pay3 (A r.val) (qRows X 0 r) (g2Val X 0) (g1Val X 0) (whpVal X 0)
/-- A block of rows of the sum of the first two heads. -/
def hp1 (r : Fin 4) : Vec F S512x64 .f32 := k0_pay6 (A (4 + r.val)) (qRows X 1 r) (g2Val X 1) (g1Val X 1) (whpVal X 1) (hp0 A X r)
/-- A block of rows of the completed hidden features. -/
def hp2 (r : Fin 4) : Vec F S512x64 .f32 := k0_pay7 (A (8 + r.val)) (qRows X 2 r) (g2Val X 2) (g1Val X 2) (whpVal X 2) (hp1 A X r)

/-- The block of rows that row `i` of 2048 lies in, and its place there. -/
def blkOf (i : Fin 2048) : Fin 4 := ⟨i.val / 512, by have := i.isLt; omega⟩
/-- A row's place in its block of rows. -/
def rowIn (i : Fin 2048) : Fin 512 := ⟨i.val % 512, Nat.mod_lt _ (by decide)⟩

/-- The completed hidden features as one array, and the first mean layer's projection of them. -/
def hpAll : Vec F S2048x64 .f32 := fun i => hp2 A X (blkOf (i 0)) (ix2 (rowIn (i 0)) (i 1))
/-- The first mean layer's projection. -/
def s1 : Vec F S2048x128 .bf16 := k0_pay8 (hpAll A X) X.gw1
/-- A block of rows of the first mean layer, the whole of it as one array, and the second mean layer's projection of it. -/
def o1Blk (r : Fin 4) : Vec F S512x128 .f32 := k0_pay9 (k0_pay4 (A r.val)) (s1 A X) (k0_pay5 (A r.val)) X.gb1
/-- The first mean layer as one array. -/
def o1All : Vec F S2048x128 .f32 := fun i => o1Blk A X (blkOf (i 0)) (ix2 (rowIn (i 0)) (i 1))
/-- The second mean layer's projection. -/
def s2 : Vec F S2048x128 .bf16 := k0_pay10 (o1All A X) X.gw2

/-- An array of 2048 rows is known from its four blocks of rows. -/
theorem hp_full (s : St F) (B : Fin 4 → Vec F S512x64 .f32) (h : ∀ r, hpAt s r = B r) :
    s.hp = fun i => B (blkOf (i 0)) (ix2 (rowIn (i 0)) (i 1)) := by
  funext i
  rw [← h]
  unfold hpAt VecWindow.window
  refine congrArg s.hp (funext fun a => Fin.ext ?_)
  fin_cases a
  · show (i 0).val = 512 * ((i 0).val / 512) + 1 * ((i 0).val % 512)
    omega
  · show (i 1).val = 0 + 1 * (i 1).val
    omega

/-- The buffer of the first mean layer is known from its four blocks of rows. -/
theorem o1_full (s : St F) (B : Fin 4 → Vec F S512x128 .f32) (h : ∀ r, o1At s r = B r) :
    s.o1 = fun i => B (blkOf (i 0)) (ix2 (rowIn (i 0)) (i 1)) := by
  funext i
  rw [← h]
  unfold o1At VecWindow.window
  refine congrArg s.o1 (funext fun a => Fin.ext ?_)
  fin_cases a
  · show (i 0).val = 512 * ((i 0).val / 512) + 1 * ((i 0).val % 512)
    omega
  · show (i 1).val = 0 + 1 * (i 1).val
    omega

/-- The preparation's tables, as the later points read them. -/
structure Tables (s : St F) : Prop where
  whp : ∀ k, whpAt s k = whpVal X k
  g1 : ∀ k, g1At s k = g1Val X k
  g2 : ∀ k, g2At s k = g2Val X k
  q : ∀ k r, qAt s k r = qRows X k r

/-- What the buffers hold before point `n`. -/
structure Held (n : ℕ) (s : St F) : Prop where
  tab : 0 < n → Tables X s
  mask : ∀ r : Fin 4, r.val < n → maskAt s r = k0_pay4 (A r.val)
  deg : ∀ r : Fin 4, r.val < n → degAt s r = k0_pay5 (A r.val)
  first : ∀ r : Fin 4, r.val < n → n ≤ 4 + r.val → hpAt s r = hp0 A X r
  second : ∀ r : Fin 4, 4 + r.val < n → n ≤ 8 + r.val → hpAt s r = hp1 A X r
  third : ∀ r : Fin 4, 8 + r.val < n → hpAt s r = hp2 A X r
  sup1 : 12 < n → n ≤ 16 → s.sup = s1 A X
  o1 : ∀ r : Fin 4, 12 + r.val < n → o1At s r = o1Blk A X r
  sup2 : 16 < n → s.sup = s2 A X

/-- Two different blocks of rows do not meet. -/
theorem rows_apart {r r' : Fin 4} (h : r' ≠ r) : 512 * r'.val + 512 ≤ 512 * r.val ∨ 512 * r.val + 512 ≤ 512 * r'.val := by
  have := fun e => h (Fin.ext e)
  omega

/-- A block of rows put into an array of rows: that block reads back, every other is as before. -/
theorem window_rows {d e : ℕ} {el : EltTy} (x : Vec F ⟨2, ![d, e]⟩ el) (w : Vec F ⟨2, ![512, e]⟩ el) (r r' : Fin 4)
    (inb : ∀ a, (![512 * r'.val, 0] : Fin 2 → ℕ) a + (![512, e] : Fin 2 → ℕ) a ≤ (![d, e] : Fin 2 → ℕ) a) :
    VecWindow.window (s := ⟨2, ![d, e]⟩) (VecWindow.put (s := ⟨2, ![d, e]⟩) x ![512 * r.val, 0] ![512, e] w) ![512 * r'.val, 0] ![512, e] inb
      = if r' = r then w else VecWindow.window (s := ⟨2, ![d, e]⟩) x ![512 * r'.val, 0] ![512, e] inb := by
  by_cases h : r' = r
  · subst h
    rw [if_pos rfl]
    exact VecWindow.window_put_same _ _ _ _ _
  · rw [if_neg h]
    exact VecWindow.window_put_of_disjoint _ _ _ _ _ _ _ (0 : Fin 2) (rows_apart h)

/-- After a block of rows of the hidden features is written, that block is new and the others are kept. -/
theorem hpAt_put (s : St F) (w : Vec F S512x64 .f32) (r r' : Fin 4) :
    hpAt { s with hp := VecWindow.put s.hp ![512 * r.val, 0] S512x64.size w } r' = if r' = r then w else hpAt s r' :=
  window_rows _ _ _ _ _
/-- After a block of rows of the mask is written, that block is new and the others are kept. -/
theorem maskAt_put (s : St F) (w : Vec F S512x2048 .bf16) (r r' : Fin 4) :
    maskAt { s with mask := VecWindow.put s.mask ![512 * r.val, 0] S512x2048.size w } r' = if r' = r then w else maskAt s r' :=
  window_rows _ _ _ _ _
/-- After a block of rows of the degrees is written, that block is new and the others are kept. -/
theorem degAt_put (s : St F) (w : Vec F S512x1 .f32) (r r' : Fin 4) :
    degAt { s with deg := VecWindow.put s.deg ![512 * r.val, 0] S512x1.size w } r' = if r' = r then w else degAt s r' :=
  window_rows _ _ _ _ _
/-- After a block of rows of the first mean layer is written, that block is new and the others are kept. -/
theorem o1At_put (s : St F) (w : Vec F S512x128 .f32) (r r' : Fin 4) :
    o1At { s with o1 := VecWindow.put s.o1 ![512 * r.val, 0] S512x128.size w } r' = if r' = r then w else o1At s r' :=
  window_rows _ _ _ _ _

/-- A slice of a stack of three is the slice that was put there. -/
theorem window_stack {d e : ℕ} {el : EltTy} (w : Fin 3 → Vec F ⟨3, ![1, d, e]⟩ el) (k : Fin 3)
    (inb : ∀ a, (![k.val, 0, 0] : Fin 3 → ℕ) a + (![1, d, e] : Fin 3 → ℕ) a ≤ (![3, d, e] : Fin 3 → ℕ) a) :
    VecWindow.window (s := ⟨3, ![3, d, e]⟩) (stack (S := ⟨3, ![3, d, e]⟩) ![0, 0, 0] ![1, 0, 0] ![2, 0, 0] ![1, d, e] (w 0) (w 1) (w 2))
      ![k.val, 0, 0] ![1, d, e] inb = w k := by
  fin_cases k
  · refine (VecWindow.window_put_of_disjoint _ _ _ _ _ _ _ (0 : Fin 3) (.inl (by show (_ : ℕ) ≤ _; simp))).trans ?_
    refine (VecWindow.window_put_of_disjoint _ _ _ _ _ _ _ (0 : Fin 3) (.inl (by show (_ : ℕ) ≤ _; simp))).trans ?_
    exact VecWindow.window_put_same _ _ _ _ _
  · refine (VecWindow.window_put_of_disjoint _ _ _ _ _ _ _ (0 : Fin 3) (.inl (by show (_ : ℕ) ≤ _; simp))).trans ?_
    exact VecWindow.window_put_same _ _ _ _ _
  · exact VecWindow.window_put_same _ _ _ _ _

/-- Rows of a slice of an array are rows of that slice. -/
theorem window_slice (x : Vec F S3x2048x1 .f32) (k : Fin 3) (r : Fin 4) (inb : ∀ a, (![k.val, 0, 0] : Fin 3 → ℕ) a + S1x2048x1.size a ≤ S3x2048x1.size a) :
    VecWindow.window x ![k.val, 512 * r.val, 0] S1x512x1.size (inb_q k r)
      = VecWindow.window (s := S1x2048x1) (VecWindow.window x ![k.val, 0, 0] S1x2048x1.size inb) ![0, 512 * r.val, 0] S1x512x1.size (inb_qv r) := by
  funext y
  unfold VecWindow.window
  refine congrArg x (funext fun a => Fin.ext ?_)
  fin_cases a
  · show k.val + 1 * (y 0).val = k.val + 1 * (0 + 1 * (y 0).val)
    omega
  · show 512 * r.val + 1 * (y 1).val = 0 + 1 * (512 * r.val + 1 * (y 1).val)
    omega
  · show 0 + 1 * (y 2).val = 0 + 1 * (0 + 1 * (y 2).val)
    omega

/-- One relation's row table lies inside the buffer. -/
theorem inb_qs (k : Fin 3) : ∀ a, (![k.val, 0, 0] : Fin 3 → ℕ) a + S1x2048x1.size a ≤ S3x2048x1.size a := by
  revert k; decide

/-- The first point fills the tables. -/
theorem prep_tables (s : St F) : Tables X (prep X s) where
  whp k := window_stack (whpVal X) k _
  g1 k := window_stack (g1Val X) k _
  g2 k := window_stack (g2Val X) k _
  q k r := by
    unfold qAt qRows
    rw [window_slice _ k r (inb_qs k)]
    exact congrArg (fun v => VecWindow.window (s := S1x2048x1) v ![0, 512 * r.val, 0] S1x512x1.size (inb_qv r)) (window_stack (qVal X) k _)

/-- A point of the first attention phase, on the tables. -/
theorem held_attn0 (n : ℕ) (hn : n < 4) (s s' : St F) (T : Tables X s') (hm : s'.mask = s.mask) (hd : s'.deg = s.deg) (hh : s'.hp = s.hp)
    (H : Held A X n s) : Held A X (n + 1) (attn0 (A n) ⟨n % 4, Nat.mod_lt _ (by decide)⟩ s') where
  tab _ := ⟨T.whp, T.g1, T.g2, T.q⟩
  mask r h := by
    refine (maskAt_put s' _ _ r).trans ?_
    split
    · rename_i e
      have e' : r.val = n % 4 := congrArg Fin.val e
      rw [show r.val = n by omega]
    · rename_i e
      have e' : r.val ≠ n % 4 := fun h => e (Fin.ext h)
      unfold maskAt; rw [hm]; exact H.mask r (by omega)
  deg r h := by
    refine (degAt_put s' _ _ r).trans ?_
    split
    · rename_i e
      have e' : r.val = n % 4 := congrArg Fin.val e
      rw [show r.val = n by omega]
    · rename_i e
      have e' : r.val ≠ n % 4 := fun h => e (Fin.ext h)
      unfold degAt; rw [hd]; exact H.deg r (by omega)
  first r h _ := by
    refine (hpAt_put s' _ _ r).trans ?_
    split
    · rename_i e
      have e' : r.val = n % 4 := congrArg Fin.val e
      rw [← e, T.whp, T.g1, T.g2, T.q, hp0, show r.val = n by omega]
    · rename_i e
      have e' : r.val ≠ n % 4 := fun h => e (Fin.ext h)
      unfold hpAt; rw [hh]; exact H.first r (by omega) (by omega)
  second r h _ := by omega
  third r h := by omega
  sup1 h _ := by omega
  o1 r h := by omega
  sup2 h := by omega

/-- A point of the second attention phase keeps the account of the buffers. -/
theorem held_attn1 (n : ℕ) (h4 : 4 ≤ n) (hn : n < 8) (s : St F) (H : Held A X n s) :
    Held A X (n + 1) (attn1 (A n) ⟨n % 4, Nat.mod_lt _ (by decide)⟩ s) where
  tab _ := have T := H.tab (by omega); ⟨T.whp, T.g1, T.g2, T.q⟩
  mask r h := H.mask r (by omega)
  deg r h := H.deg r (by omega)
  first r h h' := by
    refine (hpAt_put s _ _ r).trans ?_
    rw [if_neg (fun e => by have := congrArg Fin.val e; simp only at this; omega)]
    exact H.first r (by omega) (by omega)
  second r h _ := by
    have T := H.tab (by omega)
    refine (hpAt_put s _ _ r).trans ?_
    split
    · rename_i e
      have e' : r.val = n % 4 := congrArg Fin.val e
      rw [← e, T.whp, T.g1, T.g2, T.q, H.first r (by omega) (by omega), hp1, show 4 + r.val = n by omega]
    · rename_i e
      have e' : r.val ≠ n % 4 := fun h => e (Fin.ext h)
      exact H.second r (by omega) (by omega)
  third r h := by omega
  sup1 h _ := by omega
  o1 r h := by omega
  sup2 h := by omega

/-- A point of the third attention phase keeps it. -/
theorem held_attn2 (n : ℕ) (h8 : 8 ≤ n) (hn : n < 12) (s : St F) (H : Held A X n s) :
    Held A X (n + 1) (attn2 (A n) ⟨n % 4, Nat.mod_lt _ (by decide)⟩ s) where
  tab _ := have T := H.tab (by omega); ⟨T.whp, T.g1, T.g2, T.q⟩
  mask r h := H.mask r (by omega)
  deg r h := H.deg r (by omega)
  first r h h' := by omega
  second r h h' := by
    refine (hpAt_put s _ _ r).trans ?_
    rw [if_neg (fun e => by have := congrArg Fin.val e; simp only at this; omega)]
    exact H.second r (by omega) (by omega)
  third r h := by
    have T := H.tab (by omega)
    refine (hpAt_put s _ _ r).trans ?_
    split
    · rename_i e
      have e' : r.val = n % 4 := congrArg Fin.val e
      rw [← e, T.whp, T.g1, T.g2, T.q, H.second r (by omega) (by omega), hp2, show 8 + r.val = n by omega]
    · rename_i e
      have e' : r.val ≠ n % 4 := fun h => e (Fin.ext h)
      exact H.third r (by omega)
  sup1 h _ := by omega
  o1 r h := by omega
  sup2 h := by omega

/-- A point of the first mean phase keeps it. -/
theorem held_mean1 (n : ℕ) (h12 : 12 ≤ n) (hn : n < 16) (s s' : St F) (hs : s' = { s with sup := s1 A X }) (H : Held A X n s) :
    Held A X (n + 1) (mean1 X ⟨n % 4, Nat.mod_lt _ (by decide)⟩ s') := by
  subst hs
  exact {
    tab := fun _ => have T := H.tab (by omega); ⟨T.whp, T.g1, T.g2, T.q⟩
    mask := fun r h => H.mask r (by omega)
    deg := fun r h => H.deg r (by omega)
    first := fun r h h' => by omega
    second := fun r h h' => by omega
    third := fun r h => H.third r (by omega)
    sup1 := fun _ _ => rfl
    o1 := fun r h => by
      refine (o1At_put _ _ _ r).trans ?_
      split
      · rename_i e
        have e' : r.val = n % 4 := congrArg Fin.val e
        rw [← e, o1Blk, ← H.mask r (by omega), ← H.deg r (by omega)]
        rfl
      · rename_i e
        have e' : r.val ≠ n % 4 := fun h => e (Fin.ext h)
        exact H.o1 r (by omega)
    sup2 := fun h => by omega }

/-- The buffers hold what is said of them before every point. -/
theorem tablesHeld (s₀ : St F) : ∀ n, Held A X n (traj A X s₀ n)
  | 0 => ⟨fun h => by omega, fun r h => by omega, fun r h => by omega, fun r h => by omega, fun r h => by omega, fun r h => by omega,
      fun h => by omega, fun r h => by omega, fun h => by omega⟩
  | n + 1 => by
    have H := tablesHeld s₀ n
    show Held A X (n + 1) (step (A n) X n (traj A X s₀ n))
    generalize traj A X s₀ n = s at H ⊢
    unfold step
    by_cases c0 : n = 0
    · subst c0
      exact held_attn0 A X 0 (by omega) s (prep X s) (prep_tables X s) rfl rfl rfl H
    simp only [if_neg c0]
    by_cases c1 : n < 4
    · simp only [if_pos c1]
      exact held_attn0 A X n c1 s s (H.tab (by omega)) rfl rfl rfl H
    simp only [if_neg c1]
    by_cases c2 : n < 8
    · simp only [if_pos c2]
      exact held_attn1 A X n (by omega) c2 s H
    simp only [if_neg c2]
    by_cases c3 : n < 12
    · simp only [if_pos c3]
      exact held_attn2 A X n (by omega) c3 s H
    simp only [if_neg c3]
    by_cases c4 : n = 12
    · simp only [if_pos c4]
      refine held_mean1 A X n (by omega) (by omega) s _ ?_ H
      unfold sup1 s1
      rw [hp_full s (hp2 A X) fun r => H.third r (by have := r.isLt; omega)]
      rfl
    simp only [if_neg c4]
    by_cases c5 : n < 16
    · simp only [if_pos c5]
      refine held_mean1 A X n (by omega) c5 s _ ?_ H
      rw [← H.sup1 (by omega) (by omega)]
    simp only [if_neg c5]
    have T := H.tab (by omega)
    by_cases c6 : n = 16
    · simp only [if_pos c6]
      exact ⟨fun _ => ⟨T.whp, T.g1, T.g2, T.q⟩, fun r h => H.mask r (by omega), fun r h => H.deg r (by omega), fun r _ _ => by omega,
        fun r _ _ => by omega, fun r h => H.third r (by have := r.isLt; omega), fun _ _ => by omega,
        fun r h => H.o1 r (by have := r.isLt; omega), fun _ => by
          show k0_pay10 s.o1 X.gw2 = _
          rw [o1_full s (o1Blk A X) fun r => H.o1 r (by have := r.isLt; omega)]
          rfl⟩
    simp only [if_neg c6]
    exact ⟨fun _ => T, fun r h => H.mask r (by have := r.isLt; omega), fun r h => H.deg r (by have := r.isLt; omega), fun r _ _ => by omega,
      fun r _ _ => by omega, fun r h => H.third r (by have := r.isLt; omega), fun _ _ => by omega,
      fun r h => H.o1 r (by have := r.isLt; omega), fun _ => H.sup2 (by omega)⟩

/-- The block of rows that the last phase writes out, from the operands alone. -/
theorem outBlk_eq (s₀ : St F) (n : ℕ) (hn : 16 < n) (r : Fin 4) :
    outBlk X r (traj A X s₀ n) = k0_pay11 (k0_pay4 (A r.val)) (s2 A X) (k0_pay5 (A r.val)) (o1Blk A X r) X.gb2 := by
  have H := tablesHeld A X s₀ n
  unfold outBlk
  rw [H.mask r (by have := r.isLt; omega), H.deg r (by have := r.isLt; omega), H.o1 r (by have := r.isLt; omega), H.sup2 hn]

end Cert.KernelIdeal.Hand

end
-- ==== Proof.Math.lean ====
/-
  The mathematics that joins the two programs, over the extended reals, with no program in it.

  The kernel writes attention's weights as products of exponentials that depend on the row alone or on the column alone and normalizes once, by
  the sum of the weights. The reference takes a softmax over each row's neighbours. `head_eq` says that the two are one number, wherever the
  scores are real and every row has a neighbour. `mean_eq` says the same of the two spellings of the mean over the neighbours.
-/
module

public import Idealize.ShloMosaic.Lib.Pointwise

@[expose] public section

noncomputable section

namespace Cert.Math

open Idealize.ShloMosaic

variable {n : ℕ}

/-- The slope of the leaky rectifier, as the 32-bit pattern of 0.01 reads it. -/
def slope : ℝ := 5368709 / 2 ^ 29

/-- The word of 0.01 is the slope. -/
theorem slope_bits : Ideal.ofBits .f32 0x3C23D70A#32 = (slope : EReal) := by
  simp [Ideal.ofBits, Ideal.ieee, slope]
  rw [← EReal.coe_mul]
  congr 1
  norm_num

/-- The word of minus infinity is the least extended real. -/
theorem bot_bits : Ideal.ofBits .f32 0xFF800000#32 = (⊥ : EReal) := by
  simp [Ideal.ofBits, Ideal.ieee]

/-- The word of infinity is the greatest extended real. -/
theorem top_bits : Ideal.ofBits .f32 0x7F800000#32 = (⊤ : EReal) := by
  simp [Ideal.ofBits, Ideal.ieee]

/-- The slope is positive. -/
theorem slope_pos : 0 < slope := by unfold slope; norm_num
/-- The slope is below one. -/
theorem slope_lt_one : slope < 1 := by unfold slope; norm_num

/-- The leaky rectifier on the reals. -/
def leaky (v : ℝ) : ℝ := max v (slope * v)

/-- The rectifier as a choice by sign is the larger of the value and its multiple, infinities included. -/
theorem leaky_choice (v : EReal) : (if 0 ≤ v then v else (slope : EReal) * v) = max v ((slope : EReal) * v) := by
  induction v with
  | bot =>
    rw [if_neg (by simp), EReal.coe_mul_bot_of_pos slope_pos, max_self]
  | top =>
    rw [if_pos le_top, EReal.coe_mul_top_of_pos slope_pos, max_self]
  | coe v =>
    have hs := slope_pos
    have hs' := slope_lt_one
    rw [← EReal.coe_mul]
    by_cases h : 0 ≤ v
    · rw [if_pos (by exact_mod_cast h), max_eq_left (by exact_mod_cast (by nlinarith : slope * v ≤ v))]
    · rw [if_neg (by exact_mod_cast h), max_eq_right (by
        push Not at h
        exact_mod_cast (by nlinarith : v ≤ slope * v))]

/-- The rectifier as a maximum, on reals. -/
theorem leaky_coe (v : ℝ) : max (v : EReal) ((slope : EReal) * v) = (leaky v : EReal) := by
  rw [← EReal.coe_mul, leaky, EReal.coe_strictMono.monotone.map_max]

/-- A maximum over a row, from minus infinity, of entries below plus infinity of which one is not minus infinity, is a real number. -/
theorem fold_max_real (e : Fin n → EReal) (htop : ∀ j, e j < ⊤) (hbot : ∃ j, ⊥ < e j) :
    ∃ M : ℝ, Finset.univ.fold max ⊥ e = (M : EReal) := by
  have h1 : Finset.univ.fold max ⊥ e < ⊤ := (Finset.fold_max_lt _).2 ⟨bot_lt_top, fun j _ => htop j⟩
  have h2 : ⊥ < Finset.univ.fold max ⊥ e := (Finset.lt_fold_max _).2 (.inr (hbot.imp fun j h => ⟨Finset.mem_univ j, h⟩))
  exact ⟨_, (EReal.coe_toReal h1.ne h2.ne').symm⟩

/-- A sum of reals is the same sum of extended reals. -/
theorem coe_sum (s : Finset (Fin n)) (f : Fin n → ℝ) : ((∑ j ∈ s, f j : ℝ) : EReal) = ∑ j ∈ s, (f j : EReal) := by
  classical
  induction s using Finset.induction_on with
  | empty => simp
  | insert a s h ih => rw [Finset.sum_insert h, Finset.sum_insert h, EReal.coe_add, ih]

/-- Division of reals by a real other than zero. -/
theorem div_real {x y : ℝ} (h : y ≠ 0) : Ideal.div (x : EReal) (y : EReal) = ((x / y : ℝ) : EReal) := by
  rw [Ideal.div_coe h, ← EReal.coe_mul]
  congr 1
  ring

/-- The larger of the two exponentials is the exponential of the rectified score, shifted by a number of the row. -/
theorem weight_real (f g M : ℝ) :
    max (Real.exp (g - M)) (Real.exp ((slope - 1) * (f + M)) * Real.exp (slope * (g - M))) = Real.exp (leaky (f + g) - (f + M)) := by
  rw [← Real.exp_add, ← Real.exp_monotone.map_max, leaky]
  congr 1
  rw [← max_sub_sub_right]
  congr 1 <;> ring

/-- The kernel's head at a row of score `f` and a column of features `W`. -/
def headK (ns : EReal) (f : EReal) (g a W : Fin n → EReal) (M : EReal) : EReal :=
  Ideal.div (∑ j, max (Ideal.exp (g j - M)) (Ideal.exp (ns * (f + M)) * Ideal.exp ((slope : EReal) * (g j - M))) * a j * W j)
    (∑ j, max (Ideal.exp (g j - M)) (Ideal.exp (ns * (f + M)) * Ideal.exp ((slope : EReal) * (g j - M))) * a j * 1)

/-- The reference's masked and rectified scores of a row. -/
def scores (f : EReal) (g a : Fin n → EReal) (j : Fin n) : EReal :=
  if 0 < a j then (if 0 ≤ f + g j then f + g j else (slope : EReal) * (f + g j)) else ⊥

/-- The reference's head at the same row and column, shifted by `m`. -/
def headR (f : EReal) (g a W : Fin n → EReal) (m : EReal) : EReal :=
  ∑ j, Ideal.div (Ideal.exp (scores f g a j - m)) (∑ k, Ideal.exp (scores f g a k - m)) * W j

/-- The two heads over the reals. -/
theorem head_real (f : ℝ) (g W : Fin n → ℝ) (b : Fin n → Bool) (hb : ∃ j, b j = true) (M m : ℝ) :
    (∑ j, Real.exp (leaky (f + g j) - (f + M)) * (if b j then 1 else 0) * W j)
        / (∑ j, Real.exp (leaky (f + g j) - (f + M)) * (if b j then 1 else 0))
      = ∑ j, (if b j then Real.exp (leaky (f + g j) - m) else 0) / (∑ k, if b k then Real.exp (leaky (f + g k) - m) else 0) * W j := by
  set w : Fin n → ℝ := fun j => if b j then Real.exp (leaky (f + g j) - m) else 0 with hw
  have hc : ∀ j, Real.exp (leaky (f + g j) - (f + M)) * (if b j then 1 else 0) = Real.exp (m - f - M) * w j := fun j => by
    by_cases h : b j = true
    · simp only [hw, h, if_true, mul_one]
      rw [← Real.exp_add]
      congr 1
      ring
    · simp [hw, h]
  have e1 : ∀ j, Real.exp (leaky (f + g j) - (f + M)) * (if b j then 1 else 0) * W j = Real.exp (m - f - M) * (w j * W j) := fun j => by
    rw [hc j, mul_assoc]
  rw [Finset.sum_congr rfl fun j _ => e1 j, Finset.sum_congr rfl fun j _ => hc j, ← Finset.mul_sum, ← Finset.mul_sum,
    mul_div_mul_left _ _ (Real.exp_pos _).ne', Finset.sum_div]
  exact Finset.sum_congr rfl fun j _ => by ring

/-- The softmax weights of a row with a one have a positive sum. -/
theorem weights_pos (f m : ℝ) (g : Fin n → ℝ) (b : Fin n → Bool) (hb : ∃ j, b j = true) :
    0 < ∑ k, if b k then Real.exp (leaky (f + g k) - m) else 0 := by
  obtain ⟨j, hj⟩ := hb
  refine Finset.sum_pos' (fun k _ => ?_) ⟨j, Finset.mem_univ j, ?_⟩
  · split
    · exact (Real.exp_pos _).le
    · exact le_rfl
  · rw [if_pos hj]
    exact Real.exp_pos _

/-- The two heads are equal: real scores, real features, a row of zeros and ones with a one in it, whatever real shift each takes. -/
theorem head_eq_real (f : ℝ) (g W : Fin n → ℝ) (b : Fin n → Bool) (hb : ∃ j, b j = true) (M m : ℝ) :
    headK ((slope - 1 : ℝ) : EReal) f (fun j => g j) (fun j => ((if b j then 1 else 0 : ℝ) : EReal)) (fun j => W j) M
      = headR f (fun j => g j) (fun j => ((if b j then 1 else 0 : ℝ) : EReal)) (fun j => W j) m := by
  have hp : ∀ j, max (Ideal.exp ((g j : EReal) - M)) (Ideal.exp (((slope - 1 : ℝ) : EReal) * (f + M)) * Ideal.exp ((slope : EReal) * (g j - M)))
      = ((Real.exp (leaky (f + g j) - (f + M)) : ℝ) : EReal) := fun j => by
    rw [← weight_real, ← EReal.coe_sub, ← EReal.coe_add, ← EReal.coe_mul, ← EReal.coe_mul, Ideal.exp_coe, Ideal.exp_coe, Ideal.exp_coe,
      ← EReal.coe_mul, ← EReal.coe_strictMono.monotone.map_max]
  have hs : ∀ j, Ideal.exp (scores f (fun j => (g j : EReal)) (fun j => ((if b j then 1 else 0 : ℝ) : EReal)) j - m)
      = ((if b j then Real.exp (leaky (f + g j) - m) else 0 : ℝ) : EReal) := fun j => by
    unfold scores
    by_cases h : b j = true
    · rw [if_pos (by simp [h]), leaky_choice, ← EReal.coe_add, leaky_coe, ← EReal.coe_sub, Ideal.exp_coe, if_pos h]
    · rw [if_neg (by simp [h]), EReal.bot_sub, Ideal.exp_bot, if_neg h, EReal.coe_zero]
  have hW := weights_pos f m g b hb
  have hP : (∑ j, Real.exp (leaky (f + g j) - (f + M)) * (if b j then 1 else 0 : ℝ)) ≠ 0 := by
    obtain ⟨j, hj⟩ := hb
    refine (Finset.sum_pos' (fun k _ => ?_) ⟨j, Finset.mem_univ j, ?_⟩).ne'
    · split
      · rw [mul_one]
        exact (Real.exp_pos _).le
      · rw [mul_zero]
    · rw [if_pos hj, mul_one]
      exact Real.exp_pos _
  unfold headK headR
  simp only [hp, hs, mul_one, ← EReal.coe_mul, ← coe_sum]
  rw [div_real hP, head_real f g W b hb M m, coe_sum]
  exact Finset.sum_congr rfl fun j _ => by rw [div_real hW.ne', ← EReal.coe_mul]

/-- Every entry is a real number. -/
def Real' (e : Fin n → EReal) : Prop := ∀ j, ∃ r : ℝ, e j = (r : EReal)

/-- The two heads are equal where the scores and the features are real and the row is of zeros and ones, with a one in it, each side shifted by
    its own maximum: the kernel's of the column scores, the reference's of the row's masked scores. -/
theorem head_eq (f : EReal) (g a W : Fin n → EReal) (hf : ∃ r : ℝ, f = (r : EReal)) (hg : Real' g) (hW : Real' W)
    (ha : ∀ j, a j = 0 ∨ a j = 1) (h1 : ∃ j, a j = 1) :
    headK ((slope - 1 : ℝ) : EReal) f g a W (Finset.univ.fold max ⊥ g)
      = headR f g a W (max ⊥ (Finset.univ.fold max ⊥ (scores f g a))) := by
  obtain ⟨f, rfl⟩ := hf
  choose g' hg' using hg
  choose W' hW' using hW
  obtain rfl : g = fun j => (g' j : EReal) := funext hg'
  obtain rfl : W = fun j => (W' j : EReal) := funext hW'
  classical
  obtain ⟨b, hb⟩ : ∃ b : Fin n → Bool, ∀ j, a j = ((if b j then 1 else 0 : ℝ) : EReal) :=
    ⟨fun j => decide (a j = 1), fun j => by rcases ha j with h | h <;> simp [h]⟩
  obtain rfl : a = fun j => ((if b j then 1 else 0 : ℝ) : EReal) := funext hb
  obtain ⟨j, hj⟩ := h1
  have hj' : b j = true := by
    by_contra h
    simp [h] at hj
  obtain ⟨M, hM⟩ := fold_max_real (fun j => (g' j : EReal)) (fun j => EReal.coe_lt_top _) ⟨j, EReal.bot_lt_coe _⟩
  obtain ⟨m, hm⟩ := fold_max_real (scores f (fun j => (g' j : EReal)) (fun j => ((if b j then 1 else 0 : ℝ) : EReal)))
    (fun k => by
      unfold scores
      split
      · rw [leaky_choice, ← EReal.coe_add, leaky_coe]
        exact EReal.coe_lt_top _
      · exact bot_lt_top)
    ⟨j, by
      unfold scores
      rw [if_pos (by simp [hj']), leaky_choice, ← EReal.coe_add, leaky_coe]
      exact EReal.bot_lt_coe _⟩
  rw [hM, hm, max_eq_right bot_le]
  exact head_eq_real f g' W' b ⟨j, hj'⟩ M m

/-- A sum times a real number that is not negative is the sum of the products, infinities included. -/
theorem sum_mul_real (s : Finset (Fin n)) (v : Fin n → EReal) (d : ℝ) (hd : 0 ≤ d) : (∑ j ∈ s, v j) * (d : EReal) = ∑ j ∈ s, v j * (d : EReal) := by
  classical
  induction s using Finset.induction_on with
  | empty => simp
  | insert a s h ih => rw [Finset.sum_insert h, Finset.sum_insert h, ← ih, EReal.right_distrib_of_nonneg_of_ne_top (by exact_mod_cast hd) (EReal.coe_ne_top d)]

/-- One over the number of a row's neighbours, zero where there are none. -/
def recip (e : EReal) : EReal := if 0 < e then Ideal.div 1 e else 0

/-- The mean over the neighbours: dividing after the sum is dividing each weight before it. -/
theorem mean_eq (a S : Fin n → EReal) (ha : ∀ j, a j = 0 ∨ a j = 1) :
    (∑ j, a j * S j) * recip (∑ j, a j) = ∑ j, (a j * recip (∑ j, a j)) * S j := by
  obtain ⟨d, hd, he⟩ : ∃ d : ℝ, 0 ≤ d ∧ recip (∑ j, a j) = (d : EReal) := by
    have hs : (∑ j, a j) = ((∑ j, if a j = 1 then (1 : ℝ) else 0 : ℝ) : EReal) := by
      rw [coe_sum]
      exact Finset.sum_congr rfl fun j _ => by rcases ha j with h | h <;> simp [h]
    rw [hs, recip]
    split
    · rename_i h
      have h' : 0 < (∑ j, if a j = 1 then (1 : ℝ) else 0) := by exact_mod_cast h
      refine ⟨1 / _, (one_div_pos.2 h').le, ?_⟩
      exact div_real (x := 1) h'.ne'
    · exact ⟨0, le_rfl, rfl⟩
  rw [he, sum_mul_real _ _ _ hd]
  exact Finset.sum_congr rfl fun j _ => by rw [mul_assoc, mul_comm (S j), mul_assoc]

/-- The kernel's mean layer at a row with neighbours `a`, of a column of features `S`, with bias `b`: the mean, the bias, the rectifier. -/
def layerK (a S : Fin n → EReal) (b : EReal) : EReal :=
  max ((∑ j, a j * S j) * recip (∑ j, a j) + b) ((slope : EReal) * ((∑ j, a j * S j) * recip (∑ j, a j) + b))

/-- The reference's. -/
def layerR (a S : Fin n → EReal) (b : EReal) : EReal :=
  if 0 ≤ (∑ j, (a j * recip (∑ j, a j)) * S j) + b then (∑ j, (a j * recip (∑ j, a j)) * S j) + b
  else (slope : EReal) * ((∑ j, (a j * recip (∑ j, a j)) * S j) + b)

/-- The two spellings of a mean layer are equal over a row of zeros and ones. -/
theorem layer_eq (a S : Fin n → EReal) (b : EReal) (ha : ∀ j, a j = 0 ∨ a j = 1) : layerK a S b = layerR a S b := by
  unfold layerK layerR
  rw [mean_eq a S ha, leaky_choice]

/-- The sigmoid of the mean of three heads. -/
def mix (h0 h1 h2 : EReal) : EReal := Ideal.logistic (Ideal.div (h0 + h1 + h2) (Ideal.ofBits .f32 0x40400000#32))

variable {p q : ℕ}

/-- The first mean layer over hidden features `H`, for a spelling `L` of a mean layer. -/
def first (L : (Fin n → EReal) → (Fin n → EReal) → EReal → EReal) (a : Fin n → Fin n → EReal) (H : Fin n → Fin p → EReal) (w : Fin p → Fin q → EReal)
    (b : Fin q → EReal) (i : Fin n) (d : Fin q) : EReal :=
  L (a i) (fun j => ∑ k, H j k * w k d) (b d)

/-- The two mean layers, the second over the first's features and added to them. -/
def net (L : (Fin n → EReal) → (Fin n → EReal) → EReal → EReal) (a : Fin n → Fin n → EReal) (H : Fin n → Fin p → EReal) (w1 : Fin p → Fin q → EReal)
    (b1 : Fin q → EReal) (w2 : Fin q → Fin q → EReal) (b2 : Fin q → EReal) (i : Fin n) (d : Fin q) : EReal :=
  first L a (first L a H w1 b1) w2 b2 i d + first L a H w1 b1 i d

/-- The two mean layers together are equal in both spellings. -/
theorem net_eq (a : Fin n → Fin n → EReal) (H : Fin n → Fin p → EReal) (w1 : Fin p → Fin q → EReal) (b1 : Fin q → EReal) (w2 : Fin q → Fin q → EReal)
    (b2 : Fin q → EReal) (ha : ∀ i j, a i j = 0 ∨ a i j = 1) : net layerK a H w1 b1 w2 b2 = net layerR a H w1 b1 w2 b2 := by
  have e : ∀ {p : ℕ} (H : Fin n → Fin p → EReal) (w : Fin p → Fin q → EReal) (b : Fin q → EReal), first layerK a H w b = first layerR a H w b :=
    fun H w b => funext fun i => funext fun d => layer_eq _ _ _ (ha i)
  funext i d
  unfold net
  rw [e, e]

end Cert.Math

end
-- ==== Proof.KernelIdeal.Payloads.lean ====
/-
  The kernel's values read at one place, over the extended reals: each of the functions that a grid point stores, as scalars.
-/
module

public import proofs.«01_k».proof.Proof.KernelIdeal.Tables
public import proofs.«01_k».proof.Proof.Math
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable (X : Ops Ideal)

/-- The named slope less one. -/
theorem neg_span_val : Named.named (F := Ideal) κ "neg_span" (φ := .f32) 0xBF7D70A4#32 = ((Math.slope - 1 : ℝ) : EReal) := by
  rw [IdealRules.named_const.ideal_named_scalar κ "neg_span" (φ := .f32) 0xBF7D70A4#32 ((-531502203 / 536870912 : ℝ) : EReal) rfl, Math.slope]
  norm_num

/-- Relation `k`'s projected features, and a row's and a column's score. -/
def feat (k : Fin 3) (j : Fin 2048) (d : Fin 64) : EReal := k0_pay12 (F := Ideal) X.x (wk X k) (ix2 j d)
/-- A row's score in a relation. -/
def rowScore (k : Fin 3) (j : Fin 2048) : EReal := ∑ d : Fin 64, lok X k (ix3 0 d 0) * feat X k j d
/-- A column's score in a relation. -/
def colScore (k : Fin 3) (j : Fin 2048) : EReal := ∑ d : Fin 64, hik X k (ix3 0 0 d) * feat X k j d
/-- The largest column score. -/
def top (k : Fin 3) : EReal := Finset.univ.fold max ⊥ (colScore X k)

/-- The projected features as sums of products. -/
theorem feat_at (k : Fin 3) (j : Fin 2048) (d : Fin 64) : feat X k j d = ∑ e : Fin 256, X.x (ix2 j e) * wk X k (ix3 0 e d) := by
  unfold feat
  pointwise [k0_pay12]

/-- The product that the kernel takes the column scores from. -/
theorem colScore_at (k : Fin 3) (j : Fin 2048) : k0_pay13 (F := Ideal) X.x (wk X k) (hik X k) (ix2 0 j) = colScore X k j := by
  pointwise [k0_pay13]
  rfl

/-- A maximum over a row of one row is the maximum over the row. -/
theorem fold_pair {n : ℕ} (b : EReal) (e : Fin n → EReal) :
    Finset.univ.fold max b (fun x : Fin 1 × Fin n => e x.2) = Finset.univ.fold max b e := by
  refine eq_of_forall_ge_iff fun c => ?_
  simp [Finset.fold_max_le]

/-- The maximum that the kernel takes is the largest column score. -/
theorem top_at (k : Fin 3) : k0_pay14 (F := Ideal) X.x (wk X k) (hik X k) = top X k := by
  pointwise [k0_pay14]
  simp only [colScore_at, Math.bot_bits]
  exact fold_pair ⊥ (colScore X k)

/-- The three relations' tables are the same functions of their own operands. -/
theorem qVal_eq (k : Fin 3) : qVal X k = k0_pay15 X.x (wk X k) (lok X k) (hik X k) := by
  fin_cases k <;> rfl
/-- The first column table is one formula for all relations. -/
theorem g1Val_eq (k : Fin 3) : g1Val X k = k0_pay16 X.x (wk X k) (hik X k) := by
  fin_cases k <;> rfl
/-- The second column table is one formula for all relations. -/
theorem g2Val_eq (k : Fin 3) : g2Val X k = k0_pay18 (k0_pay17 X.x (wk X k) (hik X k)) := by
  fin_cases k <;> rfl
/-- The extended features are one formula for all relations. -/
theorem whpVal_eq (k : Fin 3) : whpVal X k = k0_pay19 (k0_pay12 X.x (wk X k)) := by
  fin_cases k <;> rfl

/-- The row table at a row. -/
theorem qVal_at (k : Fin 3) (j : Fin 2048) :
    qVal X k (ix3 0 j 0) = Ideal.exp (((Math.slope - 1 : ℝ) : EReal) * (rowScore X k j + top X k)) := by
  rw [qVal_eq]
  pointwise [k0_pay15]
  rw [neg_span_val, top_at]
  rfl

/-- The first column table at a column. -/
theorem g1Val_at (k : Fin 3) (j : Fin 2048) : g1Val X k (ix3 0 0 j) = Ideal.exp (colScore X k j - top X k) := by
  rw [g1Val_eq]
  pointwise [k0_pay16]
  rw [colScore_at, top_at]

/-- The second column table at a column. -/
theorem g2Val_at (k : Fin 3) (j : Fin 2048) : g2Val X k (ix3 0 0 j) = Ideal.exp ((Math.slope : EReal) * (colScore X k j - top X k)) := by
  rw [g2Val_eq]
  pointwise [k0_pay18, k0_pay17]
  rw [colScore_at, top_at, Math.slope_bits]

/-- The extended features' first 64 columns are the features. -/
theorem whpVal_feat (k : Fin 3) (j : Fin 2048) (d : Fin 64) : whpVal X k (ix3 0 j ⟨d.val, by omega⟩) = feat X k j d := by
  rw [whpVal_eq]
  pointwise [k0_pay19]
  rfl

/-- The extended features' next column is of ones. -/
theorem whpVal_one (k : Fin 3) (j : Fin 2048) : whpVal X k (ix3 0 j 64) = 1 := by
  rw [whpVal_eq]
  pointwise [k0_pay19]

/-- A block of rows of the row table is the table there. -/
theorem qRows_at (k : Fin 3) (r : Fin 4) (y : Fin 512) :
    qRows X k r (ix3 0 y 0) = qVal X k (ix3 0 ⟨512 * r.val + y.val, by omega⟩ 0) := by
  unfold qRows VecWindow.window
  refine congrArg (qVal X k) (funext fun a => Fin.ext ?_)
  fin_cases a
  · rfl
  · show 512 * r.val + 1 * y.val = 512 * r.val + y.val
    omega
  · rfl

variable (A : ℕ → Vec Ideal S1x512x2048 .f32)

/-- The kernel's head at row `y` of a block, given the block of the adjacency. -/
theorem head_at (n : ℕ) (k : Fin 3) (r : Fin 4) (y : Fin 512) (d : Fin 64) :
    k0_pay2 (F := Ideal) (A n) (qRows X k r) (g2Val X k) (g1Val X k) (whpVal X k) (ix2 y d)
      = Math.headK ((Math.slope - 1 : ℝ) : EReal) (rowScore X k ⟨512 * r.val + y.val, by omega⟩) (colScore X k) (fun j => A n (ix3 0 y j))
          (fun j => feat X k j d) (top X k) := by
  pointwise [k0_pay2, k0_pay1]
  simp only [qRows_at, qVal_at, g1Val_at, g2Val_at, whpVal_feat, whpVal_one]
  rfl

/-- The kernel's hidden features, over adjacency rows `a` for each relation. -/
def hidden (a : Fin 3 → Fin 2048 → Fin 2048 → EReal) (i : Fin 2048) (d : Fin 64) : EReal :=
  Math.mix (Math.headK ((Math.slope - 1 : ℝ) : EReal) (rowScore X 0 i) (colScore X 0) (a 0 i) (fun j => feat X 0 j d) (top X 0))
    (Math.headK ((Math.slope - 1 : ℝ) : EReal) (rowScore X 1 i) (colScore X 1) (a 1 i) (fun j => feat X 1 j d) (top X 1))
    (Math.headK ((Math.slope - 1 : ℝ) : EReal) (rowScore X 2 i) (colScore X 2) (a 2 i) (fun j => feat X 2 j d) (top X 2))

/-- The blocks handed to the attention phases are the relations' rows. -/
def Rows (a : Fin 3 → Fin 2048 → Fin 2048 → EReal) : Prop :=
  ∀ (k : Fin 3) (r : Fin 4) (y : Fin 512) (j : Fin 2048), A (4 * k.val + r.val) (ix3 0 y j) = a k ⟨512 * r.val + y.val, by omega⟩ j

variable {A} {a : Fin 3 → Fin 2048 → Fin 2048 → EReal} (hA : Rows A a)
include hA

/-- A block of rows of the completed hidden features. -/
theorem hp2_at (r : Fin 4) (y : Fin 512) (d : Fin 64) : hp2 A X r (ix2 y d) = hidden X a ⟨512 * r.val + y.val, by omega⟩ d := by
  have e0 : ∀ j, A r.val (ix3 0 y j) = a 0 ⟨512 * r.val + y.val, by omega⟩ j := fun j => by
    have := hA 0 r y j; rwa [show 4 * (0 : Fin 3).val + r.val = r.val from Nat.zero_add _] at this
  have e1 : ∀ j, A (4 + r.val) (ix3 0 y j) = a 1 ⟨512 * r.val + y.val, by omega⟩ j := hA 1 r y
  have e2 : ∀ j, A (8 + r.val) (ix3 0 y j) = a 2 ⟨512 * r.val + y.val, by omega⟩ j := hA 2 r y
  unfold hp2 hp1 hp0
  pointwise [k0_pay7, k0_pay6, k0_pay3]
  rw [head_at, head_at, head_at]
  simp only [e0, e1, e2]
  rfl

/-- A row is its place in its block of rows. -/
theorem row_split (i : Fin 2048) (h : 512 * (blkOf i).val + (rowIn i).val < 2048) : (⟨512 * (blkOf i).val + (rowIn i).val, h⟩ : Fin 2048) = i :=
  Fin.ext (by show 512 * (i.val / 512) + i.val % 512 = i.val; omega)

/-- The completed hidden features. -/
theorem hpAll_at (i : Fin 2048) (d : Fin 64) : hpAll A X (ix2 i d) = hidden X a i d := by
  show hp2 A X (blkOf i) (ix2 (rowIn i) d) = _
  rw [hp2_at X hA, row_split hA]

/-- A block of rows of the first mean layer. -/
theorem o1Blk_at (r : Fin 4) (y : Fin 512) (d : Fin 128) :
    o1Blk A X r (ix2 y d) = Math.first Math.layerK (a 0) (hidden X a) (fun k d => X.gw1 (ix2 k d)) (fun d => X.gb1 (ix2 0 d)) ⟨512 * r.val + y.val, by omega⟩ d := by
  have e0 : ∀ j, A r.val (ix3 0 y j) = a 0 ⟨512 * r.val + y.val, by omega⟩ j := fun j => by
    have := hA 0 r y j; rwa [show 4 * (0 : Fin 3).val + r.val = r.val from Nat.zero_add _] at this
  unfold o1Blk s1
  pointwise [k0_pay9, k0_pay8, k0_pay5, k0_pay4, k0_pay1]
  simp only [hpAll_at X hA, e0, Math.slope_bits]
  rfl

/-- The first mean layer. -/
theorem o1All_at (i : Fin 2048) (d : Fin 128) :
    o1All A X (ix2 i d) = Math.first Math.layerK (a 0) (hidden X a) (fun k d => X.gw1 (ix2 k d)) (fun d => X.gb1 (ix2 0 d)) i d := by
  show o1Blk A X (blkOf i) (ix2 (rowIn i) d) = _
  rw [o1Blk_at X hA, row_split hA]

/-- The block of rows that the last phase writes out. -/
theorem out_at (s₀ : St Ideal) (n : ℕ) (hn : 16 < n) (r : Fin 4) (y : Fin 512) (d : Fin 128) :
    outBlk X r (traj A X s₀ n) (ix2 y d)
      = Math.net Math.layerK (a 0) (hidden X a) (fun k d => X.gw1 (ix2 k d)) (fun d => X.gb1 (ix2 0 d)) (fun k d => X.gw2 (ix2 k d))
          (fun d => X.gb2 (ix2 0 d)) ⟨512 * r.val + y.val, by omega⟩ d := by
  have e0 : ∀ j, A r.val (ix3 0 y j) = a 0 ⟨512 * r.val + y.val, by omega⟩ j := fun j => by
    have := hA 0 r y j; rwa [show 4 * (0 : Fin 3).val + r.val = r.val from Nat.zero_add _] at this
  rw [outBlk_eq A X s₀ n hn r]
  unfold s2
  pointwise [k0_pay11, k0_pay10, k0_pay5, k0_pay4, k0_pay1]
  simp only [o1All_at X hA, o1Blk_at X hA, e0, Math.slope_bits]
  rfl

end Cert.KernelIdeal.Hand

end
-- ==== Proof.KernelIdeal.Operands.lean ====
/-
  What the kernel's operands hold when its first grid point starts, read at one place from the arguments: the stacked weights and attention
  vectors, relation by relation, and the block of the adjacency that each grid point is handed.
-/
module

public import proofs.«01_k».proof.Proof.KernelIdeal.Result
public import proofs.«01_k».proof.Proof.KernelIdeal.Payloads
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (c : Dev nD)

/-- The arguments, as arrays of extended reals. -/
def argX : FVec Ideal S2048x256 .f32 := m ((c : Thread nD τ).loc main_arg0)
/-- The adjacencies. -/
def argAdj : FVec Ideal S3x2048x2048 .f32 := m ((c : Thread nD τ).loc main_arg1)
/-- The weights, by relation. -/
def argW : Fin 3 → FVec Ideal S256x64 .f32
  | 0 => m ((c : Thread nD τ).loc main_arg3)
  | 1 => m ((c : Thread nD τ).loc main_arg4)
  | 2 => m ((c : Thread nD τ).loc main_arg5)
/-- The attention vectors, by relation. -/
def argA : Fin 3 → FVec Ideal S128x1 .f32
  | 0 => m ((c : Thread nD τ).loc main_arg6)
  | 1 => m ((c : Thread nD τ).loc main_arg7)
  | 2 => m ((c : Thread nD τ).loc main_arg8)
/-- The first mean layer's weights. -/
def argGw1 : FVec Ideal S64x128 .f32 := m ((c : Thread nD τ).loc main_arg9)
/-- The first mean layer's bias. -/
def argGb1 : FVec Ideal S128 .f32 := m ((c : Thread nD τ).loc main_arg10)
/-- The second mean layer's weights. -/
def argGw2 : FVec Ideal S128x128 .f32 := m ((c : Thread nD τ).loc main_arg11)
/-- The second mean layer's bias. -/
def argGb2 : FVec Ideal S128 .f32 := m ((c : Thread nD τ).loc main_arg12)

/-- The features operand is the features. -/
theorem x_at (j : Fin 2048) (e : Fin 256) : (opsAt m c).x (ix2 j e) = argX m c (ix2 j e) := by
  show V m c main_v5 (ix2 j e) = _
  entry_read
  rfl

/-- The first mean layer's weights operand is the argument. -/
theorem gw1_at (k : Fin 64) (d : Fin 128) : (opsAt m c).gw1 (ix2 k d) = argGw1 m c (ix2 k d) := by
  show V m c main_v23 (ix2 k d) = _
  entry_read
  rfl

/-- The second mean layer's weights operand is the argument. -/
theorem gw2_at (k d : Fin 128) : (opsAt m c).gw2 (ix2 k d) = argGw2 m c (ix2 k d) := by
  show V m c main_v25 (ix2 k d) = _
  entry_read
  rfl

/-- The first mean layer's bias operand is the argument as a row. -/
theorem gb1_at (d : Fin 128) : (opsAt m c).gb1 (ix2 0 d) = argGb1 m c (ix1 d) := by
  show V m c main_v24 (ix2 0 d) = _
  entry_read
  pointwise []
  rfl

/-- The second mean layer's bias operand is the argument as a row. -/
theorem gb2_at (d : Fin 128) : (opsAt m c).gb2 (ix2 0 d) = argGb2 m c (ix1 d) := by
  show V m c main_v26 (ix2 0 d) = _
  entry_read
  pointwise []
  rfl

/-- Three arrays stacked along a leading axis, at one place: the weights' form, and the two forms of the attention vectors' halves. -/
theorem stack_w (v : Fin 3 → FVec Ideal S256x64 .f32) (k : Fin 3) (e : Fin 256) (d : Fin 64) :
    concatenate S3x256x64 0 [⟨S1x256x64, broadcastInDim S1x256x64 ![1, 2] bcast_S256x64_S1x256x64_1_2 (v 0)⟩,
      ⟨S1x256x64, broadcastInDim S1x256x64 ![1, 2] bcast_S256x64_S1x256x64_1_2 (v 1)⟩,
      ⟨S1x256x64, broadcastInDim S1x256x64 ![1, 2] bcast_S256x64_S1x256x64_1_2 (v 2)⟩]
      concatenates_S1x256x64_S1x256x64_S1x256x64_S3x256x64_d0 (ix3 k e d) = v k (ix2 e d) := by
  fin_cases k <;> pointwise []

/-- The stacked row halves of the attention vectors, at one place. -/
theorem stack_lo (v : Fin 3 → FVec Ideal S128x1 .f32) (k : Fin 3) (d : Fin 64) :
    concatenate S3x64x1 0
      [⟨S1x64x1, broadcastInDim S1x64x1 ![1, 2] bcast_S64x1_S1x64x1_1_2 (extractStridedSlice S64x1 ![0, 0] (v 0) slices_S128x1_S64x1_0_0)⟩,
      ⟨S1x64x1, broadcastInDim S1x64x1 ![1, 2] bcast_S64x1_S1x64x1_1_2 (extractStridedSlice S64x1 ![0, 0] (v 1) slices_S128x1_S64x1_0_0)⟩,
      ⟨S1x64x1, broadcastInDim S1x64x1 ![1, 2] bcast_S64x1_S1x64x1_1_2 (extractStridedSlice S64x1 ![0, 0] (v 2) slices_S128x1_S64x1_0_0)⟩]
      concatenates_S1x64x1_S1x64x1_S1x64x1_S3x64x1_d0 (ix3 k d 0) = v k (ix2 ⟨d.val, by omega⟩ 0) := by
  fin_cases k <;> pointwise []

/-- The stacked column halves of the attention vectors, at one place. -/
theorem stack_hi (v : Fin 3 → FVec Ideal S128x1 .f32) (k : Fin 3) (d : Fin 64) :
    concatenate S3x1x64 0
      [⟨S1x1x64, broadcastInDim S1x1x64 ![1, 2] bcast_S1x64_S1x1x64_1_2
        (transpose S1x64 [1, 0] (extractStridedSlice S64x1 ![64, 0] (v 0) slices_S128x1_S64x1_64_0) transposes_S64x1_S1x64_1_0)⟩,
      ⟨S1x1x64, broadcastInDim S1x1x64 ![1, 2] bcast_S1x64_S1x1x64_1_2
        (transpose S1x64 [1, 0] (extractStridedSlice S64x1 ![64, 0] (v 1) slices_S128x1_S64x1_64_0) transposes_S64x1_S1x64_1_0)⟩,
      ⟨S1x1x64, broadcastInDim S1x1x64 ![1, 2] bcast_S1x64_S1x1x64_1_2
        (transpose S1x64 [1, 0] (extractStridedSlice S64x1 ![64, 0] (v 2) slices_S128x1_S64x1_64_0) transposes_S64x1_S1x64_1_0)⟩]
      concatenates_S1x1x64_S1x1x64_S1x1x64_S3x1x64_d0 (ix3 k 0 d) = v k (ix2 ⟨64 + d.val, by omega⟩ 0) := by
  fin_cases k <;> pointwise []

/-- The stacked weights at a relation, and the two halves of the stacked attention vectors. -/
theorem w_at (k : Fin 3) (e : Fin 256) (d : Fin 64) : (opsAt m c).w (ix3 k e d) = argW m c k (ix2 e d) :=
  stack_w (argW m c) k e d

/-- The row halves operand, at one place. -/
theorem alo_at (k : Fin 3) (d : Fin 64) : (opsAt m c).alo (ix3 k d 0) = argA m c k (ix2 ⟨d.val, by omega⟩ 0) :=
  stack_lo (argA m c) k d

/-- The column halves operand, at one place. -/
theorem ahi_at (k : Fin 3) (d : Fin 64) : (opsAt m c).ahi (ix3 k 0 d) = argA m c k (ix2 ⟨64 + d.val, by omega⟩ 0) :=
  stack_hi (argA m c) k d

/-- A relation's weights are the argument's. -/
theorem wk_at (k : Fin 3) (e : Fin 256) (d : Fin 64) : wk (opsAt m c) k (ix3 0 e d) = argW m c k (ix2 e d) := by
  rw [← w_at]
  fin_cases k <;>
  · refine congrArg (opsAt m c).w (funext fun a => Fin.ext ?_)
    fin_cases a
    · rfl
    · exact (Nat.zero_add _).trans (Nat.one_mul _)
    · exact (Nat.zero_add _).trans (Nat.one_mul _)

/-- A relation's row half is the attention vector's first 64 entries. -/
theorem lok_at (k : Fin 3) (d : Fin 64) : lok (opsAt m c) k (ix3 0 d 0) = argA m c k (ix2 ⟨d.val, by omega⟩ 0) := by
  rw [← alo_at]
  fin_cases k <;>
  · refine congrArg (opsAt m c).alo (funext fun a => Fin.ext ?_)
    fin_cases a
    · rfl
    · exact (Nat.zero_add _).trans (Nat.one_mul _)
    · rfl

/-- A relation's column half is the attention vector's last 64 entries. -/
theorem hik_at (k : Fin 3) (d : Fin 64) : hik (opsAt m c) k (ix3 0 0 d) = argA m c k (ix2 ⟨64 + d.val, by omega⟩ 0) := by
  rw [← ahi_at]
  fin_cases k <;>
  · refine congrArg (opsAt m c).ahi (funext fun a => Fin.ext ?_)
    fin_cases a
    · rfl
    · rfl
    · exact (Nat.zero_add _).trans (Nat.one_mul _)

/-- The attention phases' points are handed the relations' rows in order. -/
theorem idx_0 : ∀ t : Fin cfg0.N, t.val < 12 → win0_0.index t = ![t.val / 4, t.val % 4, 0] :=
  (by decide +kernel : ∀ t : Fin grid0.N, t.val < 12 → _)

/-- The adjacency blocks of the attention phases are the relations' rows. -/
theorem rows : Rows (adjAt m c) (fun k i j => argAdj m c (ix3 k i j)) := by
  intro k r y j
  have hr := r.isLt
  have hk := k.isLt
  have hn : 4 * k.val + r.val < cfg0.N := by
    have : cfg0.N = 20 := by decide +kernel
    omega
  rw [show adjAt m c (4 * k.val + r.val) = iblk m c 0 ⟨4 * k.val + r.val, hn⟩ from (iblk_0 m c ⟨_, hn⟩).symm]
  have hi := idx_0 ⟨4 * k.val + r.val, hn⟩ (by show 4 * k.val + r.val < 12; omega)
  have e1 : (4 * k.val + r.val) / 4 = k.val := by omega
  have e2 : (4 * k.val + r.val) % 4 = r.val := by omega
  simp only [e1, e2] at hi
  generalize (⟨4 * k.val + r.val, hn⟩ : Fin cfg0.N) = t at hi ⊢
  blk_simp [iblk]
  show V m c main_arg1 _ = m ((c : Thread nD τ).loc main_arg1) _
  rw [V_main_arg1]
  blk_ext [hi]

end Cert.KernelIdeal.Hand

end
-- ==== Proof.Reference.Values.lean ====
/-
  The reference's values read at one place, over the extended reals.
-/
module

public import proofs.«01_k».proof.Proof.Gen.ReferenceIdeal.Read
public import proofs.«01_k».proof.Proof.Math
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Idealize.SL Idealize.SL.Sem

variable (x0 : FVec Ideal S2048x256 .f32) (x1 : FVec Ideal S3x2048x2048 .f32) (x2 : IVec S_ 32)
  (x3 x4 x5 : FVec Ideal S256x64 .f32) (x6 x7 x8 : FVec Ideal S128x1 .f32)
  (x9 : FVec Ideal S64x128 .f32) (x10 : FVec Ideal S128 .f32) (x11 : FVec Ideal S128x128 .f32) (x12 : FVec Ideal S128 .f32)

/-- The projected features. -/
def feat (j : Fin 2048) (d : Fin 64) : EReal := ∑ k, x0 (ix2 j k) * x3 (ix2 k d)
/-- A row's and a column's score. -/
def rowScore (j : Fin 2048) : EReal := ∑ d : Fin 64, feat x0 x3 j d * x6 (ix2 ⟨d.val, by omega⟩ 0)
/-- A column's score. -/
def colScore (j : Fin 2048) : EReal := ∑ d : Fin 64, feat x0 x3 j d * x6 (ix2 ⟨64 + d.val, by omega⟩ 0)

/-- The reference's projected features. -/
theorem v2_at (j : Fin 2048) (d : Fin 64) : val_main_v2 (F := Ideal) x0 x3 (ix2 j d) = feat x0 x3 j d := by
  pointwise [val_main_v2]
  rfl

/-- The reference's row scores. -/
theorem v4_at (j : Fin 2048) : val_main_v4 (F := Ideal) x0 x3 x6 (ix2 j 0) = rowScore x0 x3 x6 j := by
  pointwise [val_main_v4, val_main_v3]
  exact Finset.sum_congr rfl fun d _ => by rw [v2_at]

/-- The reference's column scores. -/
theorem v7_at (j : Fin 2048) : val_main_v7 (F := Ideal) x0 x3 x6 (ix2 0 j) = colScore x0 x3 x6 j := by
  pointwise [val_main_v7, val_main_v6, val_main_v5]
  exact Finset.sum_congr rfl fun d _ => by rw [v2_at]

/-- The masked and rectified scores of a row. -/
theorem v18_at (i j : Fin 2048) : val_main_v18 (F := Ideal) x0 x1 x3 x6 (ix2 i j)
    = Math.scores (rowScore x0 x3 x6 i) (colScore x0 x3 x6) (fun j => x1 (ix3 0 i j)) j := by
  pointwise [val_main_v18, val_main_v17, val_main_v16, val_main_cst_2, val_main_v15, val_main_v14, val_main_v13, val_main_cst_0, val_main_cst_1,
    val_main_v12, val_main_v11, val_main_cst, val_main_v10, val_main_v9, val_main_v8, val_main_v1, val_main_v0, val_main_call1_v1,
    val_main_call1_v0, id]
  rw [v4_at, v7_at, Math.slope_bits, Math.bot_bits]
  rfl

/-- The largest of a row of a square array, from the initial value. -/
theorem reduce_max_at (v : FVec Ideal S2048x2048 .f32) (c : FVec Ideal S_ .f32) (i : Fin 2048) :
    Host.reduce FloatOps.maximumf v c reducesTo_S2048x2048_S2048_d1 h_S_ (ix1 i)
      = Finset.univ.fold max (c (Shape.Idx.first h_S_)) fun j => v (ix2 i j) := by
  pointwise []

/-- The reference's row maximum is a fold over the row's scores. -/
theorem v19_at (i : Fin 2048) : val_main_v19 (F := Ideal) x0 x1 x3 x6 (ix1 i)
    = Finset.univ.fold max (val_main_cst_3 (F := Ideal) (Shape.Idx.first h_S_)) fun j => val_main_v18 (F := Ideal) x0 x1 x3 x6 (ix2 i j) := by
  unfold val_main_v19
  generalize val_main_v18 (F := Ideal) x0 x1 x3 x6 = v
  generalize val_main_cst_3 (F := Ideal) = c
  exact reduce_max_at v c i

/-- The shift of a row's softmax: its largest masked score. -/
theorem v21_at (i : Fin 2048) : val_main_v21 (F := Ideal) x0 x1 x3 x6 (ix1 i)
    = max ⊥ (Finset.univ.fold max ⊥ (Math.scores (rowScore x0 x3 x6 i) (colScore x0 x3 x6) (fun j => x1 (ix3 0 i j)))) := by
  have h3 : val_main_cst_3 (F := Ideal) (Shape.Idx.first h_S_) = ⊥ := Math.bot_bits
  have h4 : val_main_v20 (F := Ideal) (ix1 i) = ⊥ := (val_main_v20_apply (F := Ideal) (ix1 i)).trans Math.bot_bits
  have h18 : (fun j => val_main_v18 (F := Ideal) x0 x1 x3 x6 (ix2 i j))
      = Math.scores (rowScore x0 x3 x6 i) (colScore x0 x3 x6) (fun j => x1 (ix3 0 i j)) := funext fun j => v18_at x0 x1 x3 x6 i j
  rw [val_main_v21_apply, v19_at, h3, h4, h18, Ideal.maximumf_def]

/-- The head over adjacency rows `a`: each row's softmax over its neighbours, against the features. -/
def head (a : Fin 2048 → Fin 2048 → EReal) (i : Fin 2048) (d : Fin 64) : EReal :=
  Math.headR (rowScore x0 x3 x6 i) (colScore x0 x3 x6) (a i) (fun j => feat x0 x3 j d)
    (max ⊥ (Finset.univ.fold max ⊥ (Math.scores (rowScore x0 x3 x6 i) (colScore x0 x3 x6) (a i))))

/-- The first relation's head. -/
theorem v30_at (i : Fin 2048) (d : Fin 64) :
    val_main_v30 (F := Ideal) x0 x1 x3 x6 (ix2 i d) = head x0 x3 x6 (fun i j => x1 (ix3 0 i j)) i d := by
  pointwise [val_main_v30, val_main_v29, val_main_v28, val_main_v27, val_main_v26, val_main_v25, val_main_v24, val_main_v23, val_main_v22, val_main_cst_5]
  unfold head Math.headR
  simp only [v18_at, v2_at, v21_at]

/-- The adjacency with its relations rotated by `k`: the second and the third head are the first over it. -/
def rotate (k : Fin 3) : FVec Ideal S3x2048x2048 .f32 := fun i => x1 (ix3 ((show Fin 3 from i 0) + k) (i 1) (i 2))

/-- The second relation is the first of the relations rotated by one. -/
theorem v1_rotate_one : val_main_v1 (F := Ideal) (rotate x1 1) = val_main_v32 (F := Ideal) x1 := by
  funext i
  idx_vars i
  pointwise [val_main_v1, val_main_v0, val_main_v32, val_main_v31, rotate]

/-- The third relation is the first of the relations rotated by two. -/
theorem v1_rotate_two : val_main_v1 (F := Ideal) (rotate x1 2) = val_main_v63 (F := Ideal) x1 := by
  funext i
  idx_vars i
  pointwise [val_main_v1, val_main_v0, val_main_v63, val_main_v62, rotate]

/-- The second relation's head is the first's of the rotated relations. -/
theorem v61_eq : val_main_v61 (F := Ideal) x0 x1 x4 x7 = val_main_v30 (F := Ideal) x0 (rotate x1 1) x4 x7 := by
  have h : val_main_v18 (F := Ideal) x0 (rotate x1 1) x4 x7 = val_main_v49 (F := Ideal) x0 x1 x4 x7 := by
    unfold val_main_v18 val_main_v17
    rw [v1_rotate_one]
    rfl
  unfold val_main_v30 val_main_v29 val_main_v28 val_main_v27 val_main_v26 val_main_v25 val_main_v24 val_main_v23 val_main_v22 val_main_v21 val_main_v19
  rw [h]
  rfl

/-- The third relation's head is the first's of the rotated relations. -/
theorem v92_eq : val_main_v92 (F := Ideal) x0 x1 x5 x8 = val_main_v30 (F := Ideal) x0 (rotate x1 2) x5 x8 := by
  have h : val_main_v18 (F := Ideal) x0 (rotate x1 2) x5 x8 = val_main_v80 (F := Ideal) x0 x1 x5 x8 := by
    unfold val_main_v18 val_main_v17
    rw [v1_rotate_two]
    rfl
  unfold val_main_v30 val_main_v29 val_main_v28 val_main_v27 val_main_v26 val_main_v25 val_main_v24 val_main_v23 val_main_v22 val_main_v21 val_main_v19
  rw [h]
  rfl

/-- The hidden features: the sigmoid of the mean of the three relations' heads. -/
def hidden (i : Fin 2048) (d : Fin 64) : EReal :=
  Math.mix (head x0 x3 x6 (fun i j => x1 (ix3 0 i j)) i d) (head x0 x4 x7 (fun i j => x1 (ix3 1 i j)) i d) (head x0 x5 x8 (fun i j => x1 (ix3 2 i j)) i d)

/-- The hidden features. -/
theorem v102_at (i : Fin 2048) (d : Fin 64) :
    val_main_v102 (F := Ideal) x0 x1 x3 x4 x5 x6 x7 x8 (ix2 i d) = hidden x0 x1 x3 x4 x5 x6 x7 x8 i d := by
  pointwise [val_main_v102, val_main_v101, val_main_v100, val_main_v99, val_main_v98, val_main_v97, val_main_v96, val_main_v95, val_main_v94,
    val_main_v93, val_main_cst_20, val_main_cst_21, val_main_cst_22]
  rw [v61_eq, v92_eq, v30_at, v30_at, v30_at]
  rfl

/-- The start of the slice of the adjacency that the mean layers take is zero where the relation is zero. -/
theorem starts_zero (h : x2 (Shape.Idx.first h_S_) = 0#32) (k : Fin 3) :
    ![val_main_v105 (F := Ideal) x2, val_main_v108 (F := Ideal), val_main_v111 (F := Ideal)] k (Shape.Idx.first h_S_) = 0#32 := by
  fin_cases k
  · pointwise [val_main_v105, val_main_v104, val_main_v103, val_main_c, val_main_c_23]
    rw [h]
    rfl
  · rfl
  · rfl

/-- Relation zero is the one that the mean layers use. -/
theorem v113_at (h : x2 (Shape.Idx.first h_S_) = 0#32) (i j : Fin 2048) : val_main_v113 (F := Ideal) x1 x2 (ix2 i j) = x1 (ix3 0 i j) := by
  pointwise [val_main_v113, val_main_v112]
  simp only [starts_zero x2 h]
  have e : ∀ a, Host.clampedStart S3x2048x2048 S1x2048x2048 rfl (fun _ => (0#32).toInt) a = 0 := by decide
  refine congrArg x1 (funext fun a => Fin.ext ?_)
  fin_cases a
  · exact e 0
  · show Host.clampedStart S3x2048x2048 S1x2048x2048 _ (fun _ => (0#32).toInt) 1 + i.val = i.val
    rw [e 1, Nat.zero_add]
  · show Host.clampedStart S3x2048x2048 S1x2048x2048 _ (fun _ => (0#32).toInt) 2 + j.val = j.val
    rw [e 2, Nat.zero_add]

/-- The mean layers over the first relation. -/
theorem v132_at (h : x2 (Shape.Idx.first h_S_) = 0#32) (i : Fin 2048) (d : Fin 128) :
    val_main_v132 (F := Ideal) x0 x1 x2 x3 x4 x5 x6 x7 x8 x9 x10 (ix2 i d)
      = Math.first Math.layerR (fun i j => x1 (ix3 0 i j)) (hidden x0 x1 x3 x4 x5 x6 x7 x8) (fun k d => x9 (ix2 k d)) (fun d => x10 (ix1 d)) i d := by
  pointwise [val_main_v132, val_main_v131, val_main_v130, val_main_v129, val_main_v128, val_main_v127, val_main_v126, val_main_v125, val_main_v124,
    val_main_v123, val_main_v122, val_main_v121, val_main_v120, val_main_v119, val_main_v118, val_main_v117, val_main_v116, val_main_v115,
    val_main_call6_v1, val_main_call6_v0, val_main_cst_34, val_main_cst_35, val_main_cst_36, val_main_cst_37, val_main_cst_38, val_main_cst_39,
    val_main_v114, id]
  simp only [v113_at x1 x2 h, v102_at, Math.slope_bits]
  rfl

/-- The reference's result. -/
theorem v152_at (h : x2 (Shape.Idx.first h_S_) = 0#32) (i : Fin 2048) (d : Fin 128) :
    val_main_v152 (F := Ideal) x0 x1 x2 x3 x4 x5 x6 x7 x8 x9 x10 x11 x12 (ix2 i d)
      = Math.net Math.layerR (fun i j => x1 (ix3 0 i j)) (hidden x0 x1 x3 x4 x5 x6 x7 x8) (fun k d => x9 (ix2 k d)) (fun d => x10 (ix1 d))
          (fun k d => x11 (ix2 k d)) (fun d => x12 (ix1 d)) i d := by
  pointwise [val_main_v152, val_main_v151, val_main_v150, val_main_v149, val_main_v148, val_main_v147, val_main_v146, val_main_v145, val_main_v144,
    val_main_v143, val_main_v142, val_main_v141, val_main_v140, val_main_v139, val_main_v138, val_main_v137, val_main_v136, val_main_v135,
    val_main_v134, val_main_v133, val_main_call8_v1, val_main_call8_v0, val_main_cst_40, val_main_cst_41, val_main_cst_42, val_main_cst_43,
    val_main_cst_44, val_main_cst_45, id]
  simp only [v113_at x1 x2 h, v132_at x0 x1 x2 x3 x4 x5 x6 x7 x8 x9 x10 h, Math.slope_bits]
  rfl

end Cert.ReferenceIdeal.Hand

end
-- ==== Proof.Precondition.lean ====
/-
  What the precondition `graphs` says of the arguments, over the extended reals: the adjacencies hold zeros and ones, every row has a one, the
  relation's word is zero, and the features, weights and attention vectors are real.
-/
module

public import proofs.«01_k».proof.Proof.Gen.Pre_graphs
public import proofs.«01_k».proof.Proof.Math
public import Idealize.ShloMosaic.Lib.Pointwise

@[expose] public section

set_option maxRecDepth 16384

noncomputable section

namespace Cert.Pre_graphs.Hand

open Cert.Pre_graphs Cert.Pre_graphs.Gen
open Idealize.ShloMosaic

/-- A comparison whose outcome is one holds. -/
theorem of_bool {p : Prop} [Decidable p] (h : BitVec.ofBool (decide p) = 1#1) : p := by
  by_contra q
  rw [decide_eq_false q] at h
  exact absurd h (by decide)

/-- Of two comparisons whose disjunction is one, one holds. -/
theorem or_of_bool {p q : Prop} [Decidable p] [Decidable q] (h : IntOp.ori (BitVec.ofBool (decide p)) (BitVec.ofBool (decide q)) = 1#1) : p ∨ q := by
  by_contra n
  rw [decide_eq_false fun hp => n (Or.inl hp), decide_eq_false fun hq => n (Or.inr hq)] at h
  exact absurd h (by decide)

/-- The adjacencies hold zeros and ones. -/
theorem zero_or_one (x : FVec Ideal S3x2048x2048 .f32)
    (h : ori (cmpf .oeq x (broadcastInDim S3x2048x2048 ![] bcast_S_S3x2048x2048 (constant S_ .f32 0x00000000#32)))
      (cmpf .oeq x (broadcastInDim S3x2048x2048 ![] bcast_S_S3x2048x2048 (constant S_ .f32 0x3F800000#32))) = fun _ => 1#1)
    (k : Fin 3) (i j : Fin 2048) : x (ix3 k i j) = 0 ∨ x (ix3 k i j) = 1 := by
  have e : (ori (cmpf .oeq x (broadcastInDim S3x2048x2048 ![] bcast_S_S3x2048x2048 (constant S_ .f32 0x00000000#32)))
      (cmpf .oeq x (broadcastInDim S3x2048x2048 ![] bcast_S_S3x2048x2048 (constant S_ .f32 0x3F800000#32)))) (ix3 k i j)
      = IntOp.ori (BitVec.ofBool (decide (x (ix3 k i j) = 0))) (BitVec.ofBool (decide (x (ix3 k i j) = 1))) := by pointwise []
  exact or_of_bool (e.symm.trans (congrFun h _))

/-- Every row of every adjacency has a one. -/
theorem some_one (x : FVec Ideal S3x2048x2048 .f32)
    (h : cmpf .ogt (Host.reduceAdd x (constant S_ .f32 0x00000000#32) reducesTo_S3x2048x2048_S3x2048_d2 h_S_)
      (broadcastInDim S3x2048 ![] bcast_S_S3x2048 (constant S_ .f32 0x00000000#32)) = fun _ => 1#1)
    (hx : ∀ (k : Fin 3) (i j : Fin 2048), x (ix3 k i j) = 0 ∨ x (ix3 k i j) = 1)
    (k : Fin 3) (i : Fin 2048) : ∃ j : Fin 2048, x (ix3 k i j) = 1 := by
  have e : cmpf .ogt (Host.reduceAdd x (constant S_ .f32 0x00000000#32) reducesTo_S3x2048x2048_S3x2048_d2 h_S_)
      (broadcastInDim S3x2048 ![] bcast_S_S3x2048 (constant S_ .f32 0x00000000#32)) (ix2 k i)
      = BitVec.ofBool (decide (0 < ∑ j : Fin 2048, x (ix3 k i j))) := by pointwise []
  have hp : 0 < ∑ j : Fin 2048, x (ix3 k i j) := of_bool (e.symm.trans (congrFun h _))
  by_contra n
  rw [Finset.sum_eq_zero fun j _ => (hx k i j).resolve_right fun hj => n ⟨j, hj⟩] at hp
  exact lt_irrefl _ hp

/-- The relation's word is zero. -/
theorem word_zero (x : IVec S_ 32) (h : cmpi .eq x (constantI S_ 32 0#32) = fun _ => 1#1) (i : S_.Idx) : x i = 0#32 := by
  have e : cmpi .eq x (constantI S_ 32 0#32) i = BitVec.ofBool (decide (x i = 0#32)) := by
    rw [← beq_eq_decide]; rfl
  exact of_bool (e.symm.trans (congrFun h i))

/-- An array whose absolute values are below infinity is real. -/
theorem is_real {s : Shape} (b : S_.BroadcastsInDim s (![] : Fin 0 → Fin s.rank)) (x : FVec Ideal s .f32)
    (h : cmpf .olt (Host.absf x) (broadcastInDim s ![] b (constant S_ .f32 0x7F800000#32)) = fun _ => 1#1)
    (i : s.Idx) : ∃ r : ℝ, x i = (r : EReal) := by
  have hi : Host.absf x i < broadcastInDim s ![] b (constant (F := Ideal) S_ .f32 0x7F800000#32) i := of_bool (congrFun h i)
  have e : broadcastInDim s ![] b (constant (F := Ideal) S_ .f32 0x7F800000#32) i = (⊤ : EReal) := by
    pointwise []
    exact Math.top_bits
  rw [e] at hi
  have ha : max (x i) (-(x i)) < (⊤ : EReal) := hi
  refine ⟨(x i).toReal, (EReal.coe_toReal (fun ht => ?_) (fun hb => ?_)).symm⟩
  · rw [ht] at ha; exact absurd ha (by simp)
  · rw [hb] at ha; exact absurd ha (by simp)

variable (x0 : FVec Ideal S2048x256 .f32) (x1 : FVec Ideal S3x2048x2048 .f32) (x2 : IVec S_ 32)
  (x3 x4 x5 : FVec Ideal S256x64 .f32) (x6 x7 x8 : FVec Ideal S128x1 .f32)
  (x9 : FVec Ideal S64x128 .f32) (x10 : FVec Ideal S128 .f32) (x11 : FVec Ideal S128x128 .f32) (x12 : FVec Ideal S128 .f32)

/-- What is used of the arguments. -/
structure Graphs : Prop where
  bits : ∀ (k : Fin 3) (i j : Fin 2048), x1 (ix3 k i j) = 0 ∨ x1 (ix3 k i j) = 1
  edge : ∀ (k : Fin 3) (i : Fin 2048), ∃ j : Fin 2048, x1 (ix3 k i j) = 1
  word : ∀ i, x2 i = 0#32
  x0r : ∀ i, ∃ r : ℝ, x0 i = (r : EReal)
  x3r : ∀ i, ∃ r : ℝ, x3 i = (r : EReal)
  x4r : ∀ i, ∃ r : ℝ, x4 i = (r : EReal)
  x5r : ∀ i, ∃ r : ℝ, x5 i = (r : EReal)
  x6r : ∀ i, ∃ r : ℝ, x6 i = (r : EReal)
  x7r : ∀ i, ∃ r : ℝ, x7 i = (r : EReal)
  x8r : ∀ i, ∃ r : ℝ, x8 i = (r : EReal)

/-- The precondition's ten arrays are all ones only of such arguments. -/
theorem graphs_of (h : let v := Cert.Pre_graphs.fn (F := Ideal) x0 x1 x2 x3 x4 x5 x6 x7 x8 x9 x10 x11 x12
      v.1 = (fun _ => 1#1) ∧ v.2.1 = (fun _ => 1#1) ∧ v.2.2.1 = (fun _ => 1#1) ∧ v.2.2.2.1 = (fun _ => 1#1) ∧ v.2.2.2.2.1 = (fun _ => 1#1)
        ∧ v.2.2.2.2.2.1 = (fun _ => 1#1) ∧ v.2.2.2.2.2.2.1 = (fun _ => 1#1) ∧ v.2.2.2.2.2.2.2.1 = (fun _ => 1#1)
        ∧ v.2.2.2.2.2.2.2.2.1 = (fun _ => 1#1) ∧ v.2.2.2.2.2.2.2.2.2 = (fun _ => 1#1)) : Graphs x0 x1 x2 x3 x4 x5 x6 x7 x8 := by
  obtain ⟨h1, h2, h3, h4, h5, h6, h7, h8, h9, h10⟩ := h
  exact ⟨zero_or_one x1 h1, some_one x1 h2 (zero_or_one x1 h1), word_zero x2 h3, is_real _ x0 h4, is_real _ x3 h5, is_real _ x4 h6,
    is_real _ x5 h7, is_real _ x6 h8, is_real _ x7 h9, is_real _ x8 h10⟩

end Cert.Pre_graphs.Hand

end
-- ==== Proof.Equal.lean ====
/-
  The kernel and the reference return the same array, over the extended reals, where the precondition holds: relation by relation the two heads
  are one value, and so is everything made of them.
-/
module

public import proofs.«01_k».proof.Defs
public import proofs.«01_k».proof.Proof.Gen.ReferenceIdeal.Run
public import proofs.«01_k».proof.Proof.KernelIdeal.Operands
public import proofs.«01_k».proof.Proof.Reference.Values
public import proofs.«01_k».proof.Proof.Precondition
public import Idealize.ShloMosaic.Adequacy

@[expose] public section

set_option maxRecDepth 16384

noncomputable section

namespace Cert.Equal

open Idealize.ShloMosaic Idealize.ShloMosaic.TcCoe
open Idealize.SL Idealize.SL.Sem
open Cert.KernelIdeal Cert.KernelIdeal.Gen
open Cert.KernelIdeal.Hand (opsAt adjAt argX argAdj argW argA argGw1 argGb1 argGw2 argGb2)

variable (m : (ℓ : Loc nD τ sig) → Buf (Elt Ideal) ℓ) (c : Dev nD)

/-- The relation's word, as the reference takes it. -/
def argRel : IVec S_ 32 := m ((c : Thread nD τ).loc main_arg2)

/-- The projected features and the two scores are the reference's. -/
theorem feat_eq (k : Fin 3) (j : Fin 2048) (d : Fin 64) :
    Hand.feat (opsAt m c) k j d = ReferenceIdeal.Hand.feat (argX m c) (argW m c k) j d := by
  rw [Hand.feat_at]
  exact Finset.sum_congr rfl fun e _ => by rw [Hand.x_at, Hand.wk_at]

/-- The row scores are the reference's. -/
theorem row_eq (k : Fin 3) (j : Fin 2048) :
    Hand.rowScore (opsAt m c) k j = ReferenceIdeal.Hand.rowScore (argX m c) (argW m c k) (argA m c k) j :=
  Finset.sum_congr rfl fun d _ => by rw [Hand.lok_at, feat_eq, mul_comm]

/-- The column scores are the reference's. -/
theorem col_eq (k : Fin 3) (j : Fin 2048) :
    Hand.colScore (opsAt m c) k j = ReferenceIdeal.Hand.colScore (argX m c) (argW m c k) (argA m c k) j :=
  Finset.sum_congr rfl fun d _ => by rw [Hand.hik_at, feat_eq, mul_comm]

/-- A sum of products of reals is real. -/
theorem real_dot {n : ℕ} (f g : Fin n → EReal) (hf : Math.Real' f) (hg : Math.Real' g) : ∃ r : ℝ, ∑ j, f j * g j = (r : EReal) := by
  choose f' hf' using hf
  choose g' hg' using hg
  exact ⟨∑ j, f' j * g' j, by rw [Math.coe_sum]; exact Finset.sum_congr rfl fun j _ => by rw [hf', hg', EReal.coe_mul]⟩

variable {m c}
variable (G : Pre_graphs.Hand.Graphs (argX m c) (argAdj m c) (argRel m c) (argW m c 0) (argW m c 1) (argW m c 2) (argA m c 0) (argA m c 1) (argA m c 2))
include G

/-- The weights are real. -/
theorem w_real (k : Fin 3) (i : S256x64.Idx) : ∃ r : ℝ, argW m c k i = (r : EReal) := by
  fin_cases k
  · exact G.x3r i
  · exact G.x4r i
  · exact G.x5r i

/-- The attention vectors are real. -/
theorem a_real (k : Fin 3) (i : S128x1.Idx) : ∃ r : ℝ, argA m c k i = (r : EReal) := by
  fin_cases k
  · exact G.x6r i
  · exact G.x7r i
  · exact G.x8r i

/-- The features and scores are real. -/
theorem feat_real (k : Fin 3) (j : Fin 2048) (d : Fin 64) : ∃ r : ℝ, ReferenceIdeal.Hand.feat (argX m c) (argW m c k) j d = (r : EReal) :=
  real_dot _ _ (fun e => G.x0r _) (fun e => w_real G k _)

/-- The row scores are real. -/
theorem row_real (k : Fin 3) (j : Fin 2048) : ∃ r : ℝ, ReferenceIdeal.Hand.rowScore (argX m c) (argW m c k) (argA m c k) j = (r : EReal) :=
  real_dot _ _ (fun d => feat_real G k j d) (fun d => a_real G k _)

/-- The column scores are real. -/
theorem col_real (k : Fin 3) (j : Fin 2048) : ∃ r : ℝ, ReferenceIdeal.Hand.colScore (argX m c) (argW m c k) (argA m c k) j = (r : EReal) :=
  real_dot _ _ (fun d => feat_real G k j d) (fun d => a_real G k _)

/-- A relation's head: the kernel's, shifted by the largest column score, is the reference's, shifted by the row's largest masked score. -/
theorem head_eq (k : Fin 3) (i : Fin 2048) (d : Fin 64) :
    Math.headK ((Math.slope - 1 : ℝ) : EReal) (Hand.rowScore (opsAt m c) k i) (Hand.colScore (opsAt m c) k) (fun j => argAdj m c (ix3 k i j))
        (fun j => Hand.feat (opsAt m c) k j d) (Hand.top (opsAt m c) k)
      = ReferenceIdeal.Hand.head (argX m c) (argW m c k) (argA m c k) (fun i j => argAdj m c (ix3 k i j)) i d := by
  unfold Hand.top ReferenceIdeal.Hand.head
  rw [row_eq, show Hand.colScore (opsAt m c) k = _ from funext (col_eq m c k),
    show (fun j => Hand.feat (opsAt m c) k j d) = _ from funext fun j => feat_eq m c k j d]
  exact Math.head_eq _ _ _ _ (row_real G k i) (col_real G k) (fun j => feat_real G k j d) (fun j => G.bits k i j) (G.edge k i)

/-- The hidden features of the two programs are one array. -/
theorem hidden_eq : Hand.hidden (opsAt m c) (fun k i j => argAdj m c (ix3 k i j))
    = ReferenceIdeal.Hand.hidden (argX m c) (argAdj m c) (argW m c 0) (argW m c 1) (argW m c 2) (argA m c 0) (argA m c 1) (argA m c 2) := by
  funext i d
  unfold Hand.hidden ReferenceIdeal.Hand.hidden
  rw [head_eq G 0, head_eq G 1, head_eq G 2]

omit G in
/-- The reference's result of the kernel's arguments. -/
def result (m : (ℓ : Loc nD τ sig) → Buf (Elt Ideal) ℓ) (c : Dev nD) : FVec Ideal S2048x128 .f32 :=
  ReferenceIdeal.Read.val_main_v152 (F := Ideal) (argX m c) (argAdj m c) (argRel m c) (argW m c 0) (argW m c 1) (argW m c 2) (argA m c 0) (argA m c 1)
    (argA m c 2) (argGw1 m c) (argGb1 m c) (argGw2 m c) (argGb2 m c)

/-- A block of the kernel's result is the reference's rows there. -/
theorem block_eq (s₀ : Hand.St Ideal) (n : ℕ) (hn : 16 < n) (r : Fin 4) (y : Fin 512) (d : Fin 128) :
    Hand.outBlk (opsAt m c) r (Hand.traj (adjAt m c) (opsAt m c) s₀ n) (ix2 y d) = result m c (ix2 ⟨512 * r.val + y.val, by omega⟩ d) := by
  rw [Hand.out_at (opsAt m c) (Hand.rows m c) s₀ n hn r y d, hidden_eq G, Math.net_eq _ _ _ _ _ _ (G.bits 0)]
  unfold result
  rw [ReferenceIdeal.Hand.v152_at _ _ _ _ _ _ _ _ _ _ _ _ _ (G.word _)]
  simp only [Hand.gw1_at, Hand.gb1_at, Hand.gw2_at, Hand.gb2_at]

/-- The kernel's whole result is the reference's. -/
theorem result_eq (r : PUnit × MemSt nD τ sig (Elt Ideal))
    (h : Pipeline.RDat.FramePost cfg0 (fun c => (Hand.dat m c).toRRel Hand.free (Hand.left m c)) (V m) r) :
    r.2.mem ((c.tc : Thread nD τ).loc main_v27) = result m c := by
  funext i
  obtain ⟨t, y, s₀, ht, hi, hv⟩ := Hand.result_of_post m r h c i
  refine hv.trans ?_
  have e := Hand.idx_9 t ht
  rw [hi]
  idx_vars y
  refine (block_eq G s₀ (t.val + 1) (by omega) (Hand.rowBlk t.val) _ _).trans ?_
  refine congrArg (result m c) ?_
  blk_ext [e, Hand.rowBlk]

omit G in
/-- The precondition, as read of the arguments. -/
theorem graphs (hm : Cert.Pre_KernelIdeal_graphs m) (c : Dev nD) :
    Pre_graphs.Hand.Graphs (argX m c) (argAdj m c) (argRel m c) (argW m c 0) (argW m c 1) (argW m c 2) (argA m c 0) (argA m c 1) (argA m c 2) :=
  Pre_graphs.Hand.graphs_of _ _ _ _ _ _ _ _ _ (argGw1 m c) (argGb1 m c) (argGw2 m c) (argGb2 m c) (hm c)

omit G in
/-- From memories that agree on the arguments, and where the precondition holds, both programs run and return one array. -/
theorem algebraic : Cert.algebraic_KernelIdeal_ReferenceIdeal_pre_graphs := by
  intro m g m' g' hm he
  refine ⟨fun c => result m c, (θ_run _ _ _).mono (fun r h c => ?_) (Hand.run_main m g), (θ_run _ _ _).mono (fun r h c => ?_) (ReferenceIdeal.Value.run m' g')⟩
  · exact ⟨result_eq (graphs hm c) r h.1, Hand.args_of_post m r h.1 c⟩
  · refine ⟨((h c).1.trans (ReferenceIdeal.Read.val_main_v152_eq _)).trans ?_, (h c).2⟩
    obtain ⟨e0, e1, e2, e3, e4, e5, e6, e7, e8, e9, e10, e11, e12⟩ := he c
    unfold result argRel argX argAdj argGw1 argGb1 argGw2 argGb2
    exact congr (congr (congr (congr (congr (congr (congr (congr (congr (congr (congr (congr (congrArg _ e0) e1) e2) e3) e4) e5) e6) e7) e8) e9) e10) e11) e12

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_graphs
public import proofs.«01_k».proof.Proof.Kernel.Result
public import proofs.«01_k».proof.Proof.KernelIdeal.Result
public import proofs.«01_k».proof.Proof.Equal
public import Idealize.ShloMosaic.Adequacy
public import Idealize.ShloMosaic.Init
public import Idealize.ShloMosaic.Lib.Quiescent

@[expose] public section

noncomputable section

/-! The certificate: every claim made of the two programs, assembled. -/

namespace Cert.Proof

open Idealize.ShloMosaic Idealize.SL.Sem

/-- The reference runs, keeps its arguments and leaves every semaphore at zero: it has none. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

/-- The kernel's named slope has, on each lane, the value given to it. -/
theorem slope_named : Cert.preserves_Kernel_KernelIdeal :=
  IdealRules.named_const.statement _ _ _ _ _ rfl

/-- All the claims. Where a claim is also stated under the precondition, the claim without it is used. -/
theorem claim : Cert.Claim :=
  ⟨Cert.Kernel.Gen.facts, Cert.KernelIdeal.Gen.facts, Cert.ReferenceIdeal.Gen.facts, Cert.Pre_graphs.Gen.facts,
    fun m ρ _ => Cert.Kernel.Hand.run_frame m ρ,
    fun m ρ _ => Cert.KernelIdeal.Hand.run_frame m ρ,
    fun m ρ _ => Cert.KernelIdeal.Hand.run_frame m ρ,
    reference_frame,
    fun m ρ _ => reference_frame m ρ trivial,
    slope_named,
    Cert.Equal.algebraic⟩

end Cert.Proof

end
